-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_packed_events [hPre_packed_events : Cert.Pre_packed_events.Facts] (m : (ℓ : Loc Cert.KernelIdeal.nD Cert.KernelIdeal.τ Cert.KernelIdeal.sig) → Buf (Elt Ideal) ℓ) : Prop :=
  ∀ c : Dev Cert.KernelIdeal.nD,
    (Cert.Pre_packed_events.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).1 = (fun _ => 1#1)
    ∧ (Cert.Pre_packed_events.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.1 = (fun _ => 1#1)
    ∧ (Cert.Pre_packed_events.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.1 = (fun _ => 1#1)
    ∧ (Cert.Pre_packed_events.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.1 = (fun _ => 1#1)
    ∧ (Cert.Pre_packed_events.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.1 = (fun _ => 1#1)
    ∧ (Cert.Pre_packed_events.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.1 = (fun _ => 1#1)
    ∧ (Cert.Pre_packed_events.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.1 = (fun _ => 1#1)
    ∧ (Cert.Pre_packed_events.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.1 = (fun _ => 1#1)
    ∧ (Cert.Pre_packed_events.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.1 = (fun _ => 1#1)
    ∧ (Cert.Pre_packed_events.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.1 = (fun _ => 1#1)
    ∧ (Cert.Pre_packed_events.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.1 = (fun _ => 1#1)
    ∧ (Cert.Pre_packed_events.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.1 = (fun _ => 1#1)
    ∧ (Cert.Pre_packed_events.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.1 = (fun _ => 1#1)
    ∧ (Cert.Pre_packed_events.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_packed_events [hPre_packed_events : Cert.Pre_packed_events.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_packed_events.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).1 = (fun _ => 1#1)
    ∧ (Cert.Pre_packed_events.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.1 = (fun _ => 1#1)
    ∧ (Cert.Pre_packed_events.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.1 = (fun _ => 1#1)
    ∧ (Cert.Pre_packed_events.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.1 = (fun _ => 1#1)
    ∧ (Cert.Pre_packed_events.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.1 = (fun _ => 1#1)
    ∧ (Cert.Pre_packed_events.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.1 = (fun _ => 1#1)
    ∧ (Cert.Pre_packed_events.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.1 = (fun _ => 1#1)
    ∧ (Cert.Pre_packed_events.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.1 = (fun _ => 1#1)
    ∧ (Cert.Pre_packed_events.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.1 = (fun _ => 1#1)
    ∧ (Cert.Pre_packed_events.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.1 = (fun _ => 1#1)
    ∧ (Cert.Pre_packed_events.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.1 = (fun _ => 1#1)
    ∧ (Cert.Pre_packed_events.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.1 = (fun _ => 1#1)
    ∧ (Cert.Pre_packed_events.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.1 = (fun _ => 1#1)
    ∧ (Cert.Pre_packed_events.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_packed_events [hKernelIdeal : Cert.KernelIdeal.Facts] [hPre_packed_events : Cert.Pre_packed_events.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_packed_events m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_packed_events [hReferenceIdeal : Cert.ReferenceIdeal.Facts] [hPre_packed_events : Cert.Pre_packed_events.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_packed_events m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal_pre_packed_events [hKernelIdeal : Cert.KernelIdeal.Facts] [hReferenceIdeal : Cert.ReferenceIdeal.Facts] [hPre_packed_events : Cert.Pre_packed_events.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_packed_events m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_packed_events : Cert.Pre_packed_events.Facts),
    quiescent_Kernel (hKernel := hKernel)
    ∧ quiescent_KernelIdeal (hKernelIdeal := hKernelIdeal)
    ∧ quiescent_KernelIdeal_pre_packed_events (hKernelIdeal := hKernelIdeal) (hPre_packed_events := hPre_packed_events)
    ∧ quiescent_ReferenceIdeal (hReferenceIdeal := hReferenceIdeal)
    ∧ quiescent_ReferenceIdeal_pre_packed_events (hReferenceIdeal := hReferenceIdeal) (hPre_packed_events := hPre_packed_events)
    ∧ preserves_Kernel_KernelIdeal
    ∧ algebraic_KernelIdeal_ReferenceIdeal_pre_packed_events (hKernelIdeal := hKernelIdeal) (hReferenceIdeal := hReferenceIdeal) (hPre_packed_events := hPre_packed_events)
-- ==== Pre_packed_events.lean ====
abbrev S16384x7 : Shape := ⟨2, ![16384, 7]⟩
abbrev S16384 : Shape := ⟨1, ![16384]⟩
abbrev S16384x2 : Shape := ⟨2, ![16384, 2]⟩
abbrev S16384x9 : Shape := ⟨2, ![16384, 9]⟩
abbrev S16384x16 : Shape := ⟨2, ![16384, 16]⟩
abbrev S53x128 : Shape := ⟨2, ![53, 128]⟩
abbrev S2x128 : Shape := ⟨2, ![2, 128]⟩
abbrev S9x128 : Shape := ⟨2, ![9, 128]⟩
abbrev S10x128 : Shape := ⟨2, ![10, 128]⟩
abbrev S128x2 : Shape := ⟨2, ![128, 2]⟩
abbrev S128 : Shape := ⟨1, ![128]⟩
abbrev S128x9 : Shape := ⟨2, ![128, 9]⟩
abbrev S128x16 : Shape := ⟨2, ![128, 16]⟩
abbrev S128x896 : Shape := ⟨2, ![128, 896]⟩
abbrev S_ : Shape := ⟨0, ![]⟩
abbrev S128x384 : Shape := ⟨2, ![128, 384]⟩

class Facts : Prop where
  bcast_S_S16384x7 : S_.BroadcastsInDim S16384x7 (![] : Fin 0 → Fin S16384x7.rank)
  bcast_S_S16384 : S_.BroadcastsInDim S16384 (![] : Fin 0 → Fin S16384.rank)
  bcast_S_S16384x2 : S_.BroadcastsInDim S16384x2 (![] : Fin 0 → Fin S16384x2.rank)
  bcast_S_S16384x9 : S_.BroadcastsInDim S16384x9 (![] : Fin 0 → Fin S16384x9.rank)
  bcast_S_S16384x16 : S_.BroadcastsInDim S16384x16 (![] : Fin 0 → Fin S16384x16.rank)
  bcast_S_S128x2 : S_.BroadcastsInDim S128x2 (![] : Fin 0 → Fin S128x2.rank)
  bcast_S_S128x9 : S_.BroadcastsInDim S128x9 (![] : Fin 0 → Fin S128x9.rank)
  bcast_S_S128x16 : S_.BroadcastsInDim S128x16 (![] : Fin 0 → Fin S128x16.rank)
  slices_S128x896_S128x384_0_512 : S128x896.Slices ![0, 512] S128x384
  bcast_S_S128x384 : S_.BroadcastsInDim S128x384 (![] : Fin 0 → Fin S128x384.rank)

variable [Facts]

def fn_part3 {F : FTy → Type} [FloatOps F] (main_arg20 : FVec F S128x896 .f32) (main_v5 : IVec S16384x7 1) (main_v10 : IVec S16384 1) (main_v15 : IVec S16384 1) (main_v20 : IVec S16384 1) (main_v25 : IVec S16384 1) (main_v30 : IVec S16384 1) (main_v34 : IVec S16384 1) (main_v37 : IVec S16384x2 1) (main_v40 : IVec S16384x9 1) (main_v43 : IVec S16384x16 1) (main_v46 : IVec S128x2 1) (main_v49 : IVec S128x9 1) (main_v52 : IVec S128x16 1) : IVec S16384x7 1 × IVec S16384 1 × IVec S16384 1 × IVec S16384 1 × IVec S16384 1 × IVec S16384 1 × IVec S16384 1 × IVec S16384x2 1 × IVec S16384x9 1 × IVec S16384x16 1 × IVec S128x2 1 × IVec S128x9 1 × IVec S128x16 1 × IVec S128x384 1 :=
  let main_v53 : FVec F S128x384 .f32 := (extractStridedSlice S128x384 ![0, 512] · slices_S128x896_S128x384_0_512) main_arg20
  let main_v54 : FVec F S128x384 .f32 := Host.absf main_v53
  let main_cst_17 : FVec F S_ .f32 := constant S_ .f32 0x7F800000#32
  let main_v55 : FVec F S128x384 .f32 := broadcastInDim S128x384 ![] bcast_S_S128x384 main_cst_17
  let main_v56 : IVec S128x384 1 := cmpf .olt main_v54 main_v55
  (main_v5, main_v10, main_v15, main_v20, main_v25, main_v30, main_v34, main_v37, main_v40, main_v43, main_v46, main_v49, main_v52, main_v56)

def fn_part2 {F : FTy → Type} [FloatOps F] (main_arg4 : FVec F S16384x2 .f32) (main_arg5 : FVec F S16384x9 .f32) (main_arg6 : FVec F S16384x16 .f32) (main_arg14 : FVec F S128x2 .f32) (main_arg16 : FVec F S128x9 .f32) (main_arg18 : FVec F S128x16 .f32) (main_arg20 : FVec F S128x896 .f32) (main_v5 : IVec S16384x7 1) (main_v10 : IVec S16384 1) (main_v15 : IVec S16384 1) (main_v20 : IVec S16384 1) (main_v25 : IVec S16384 1) (main_v30 : IVec S16384 1) (main_v34 : IVec S16384 1) : IVec S16384x7 1 × IVec S16384 1 × IVec S16384 1 × IVec S16384 1 × IVec S16384 1 × IVec S16384 1 × IVec S16384 1 × IVec S16384x2 1 × IVec S16384x9 1 × IVec S16384x16 1 × IVec S128x2 1 × IVec S128x9 1 × IVec S128x16 1 × IVec S128x384 1 :=
  let main_v35 : FVec F S16384x2 .f32 := Host.absf main_arg4
  let main_cst : FVec F S_ .f32 := constant S_ .f32 0x7F800000#32
  let main_v36 : FVec F S16384x2 .f32 := broadcastInDim S16384x2 ![] bcast_S_S16384x2 main_cst
  let main_v37 : IVec S16384x2 1 := cmpf .olt main_v35 main_v36
  let main_v38 : FVec F S16384x9 .f32 := Host.absf main_arg5
  let main_cst_12 : FVec F S_ .f32 := constant S_ .f32 0x7F800000#32
  let main_v39 : FVec F S16384x9 .f32 := broadcastInDim S16384x9 ![] bcast_S_S16384x9 main_cst_12
  let main_v40 : IVec S16384x9 1 := cmpf .olt main_v38 main_v39
  let main_v41 : FVec F S16384x16 .f32 := Host.absf main_arg6
  let main_cst_13 : FVec F S_ .f32 := constant S_ .f32 0x7F800000#32
  let main_v42 : FVec F S16384x16 .f32 := broadcastInDim S16384x16 ![] bcast_S_S16384x16 main_cst_13
  let main_v43 : IVec S16384x16 1 := cmpf .olt main_v41 main_v42
  let main_v44 : FVec F S128x2 .f32 := Host.absf main_arg14
  let main_cst_14 : FVec F S_ .f32 := constant S_ .f32 0x7F800000#32
  let main_v45 : FVec F S128x2 .f32 := broadcastInDim S128x2 ![] bcast_S_S128x2 main_cst_14
  let main_v46 : IVec S128x2 1 := cmpf .olt main_v44 main_v45
  let main_v47 : FVec F S128x9 .f32 := Host.absf main_arg16
  let main_cst_15 : FVec F S_ .f32 := constant S_ .f32 0x7F800000#32
  let main_v48 : FVec F S128x9 .f32 := broadcastInDim S128x9 ![] bcast_S_S128x9 main_cst_15
  let main_v49 : IVec S128x9 1 := cmpf .olt main_v47 main_v48
  let main_v50 : FVec F S128x16 .f32 := Host.absf main_arg18
  let main_cst_16 : FVec F S_ .f32 := constant S_ .f32 0x7F800000#32
  let main_v51 : FVec F S128x16 .f32 := broadcastInDim S128x16 ![] bcast_S_S128x16 main_cst_16
  let main_v52 : IVec S128x16 1 := cmpf .olt main_v50 main_v51
  fn_part3 (F := F) main_arg20 main_v5 main_v10 main_v15 main_v20 main_v25 main_v30 main_v34 main_v37 main_v40 main_v43 main_v46 main_v49 main_v52

def fn_part1 {F : FTy → Type} [FloatOps F] (main_arg3 : IVec S16384 32) (main_arg4 : FVec F S16384x2 .f32) (main_arg5 : FVec F S16384x9 .f32) (main_arg6 : FVec F S16384x16 .f32) (main_arg7 : IVec S16384 32) (main_arg8 : IVec S16384 32) (main_arg14 : FVec F S128x2 .f32) (main_arg16 : FVec F S128x9 .f32) (main_arg18 : FVec F S128x16 .f32) (main_arg20 : FVec F S128x896 .f32) (main_v0 : IVec S16384 32) (main_v5 : IVec S16384x7 1) (main_v10 : IVec S16384 1) (main_v15 : IVec S16384 1) (main_v16 : IVec S16384 32) : IVec S16384x7 1 × IVec S16384 1 × IVec S16384 1 × IVec S16384 1 × IVec S16384 1 × IVec S16384 1 × IVec S16384 1 × IVec S16384x2 1 × IVec S16384x9 1 × IVec S16384x16 1 × IVec S128x2 1 × IVec S128x9 1 × IVec S128x16 1 × IVec S128x384 1 :=
  let main_v17 : IVec S16384 1 := cmpi .sge main_arg3 main_v16
  let main_c_6 : IVec S_ 32 := constantI S_ 32 10#32
  let main_v18 : IVec S16384 32 := broadcastInDim S16384 ![] bcast_S_S16384 main_c_6
  let main_v19 : IVec S16384 1 := cmpi .slt main_arg3 main_v18
  let main_v20 : IVec S16384 1 := andi main_v17 main_v19
  let main_c_7 : IVec S_ 32 := constantI S_ 32 0#32
  let main_v21 : IVec S16384 32 := broadcastInDim S16384 ![] bcast_S_S16384 main_c_7
  let main_v22 : IVec S16384 1 := cmpi .sge main_arg7 main_v21
  let main_c_8 : IVec S_ 32 := constantI S_ 32 1024#32
  let main_v23 : IVec S16384 32 := broadcastInDim S16384 ![] bcast_S_S16384 main_c_8
  let main_v24 : IVec S16384 1 := cmpi .slt main_arg7 main_v23
  let main_v25 : IVec S16384 1 := andi main_v22 main_v24
  let main_c_9 : IVec S_ 32 := constantI S_ 32 0#32
  let main_v26 : IVec S16384 32 := broadcastInDim S16384 ![] bcast_S_S16384 main_c_9
  let main_v27 : IVec S16384 1 := cmpi .sge main_arg8 main_v26
  let main_c_10 : IVec S_ 32 := constantI S_ 32 16#32
  let main_v28 : IVec S16384 32 := broadcastInDim S16384 ![] bcast_S_S16384 main_c_10
  let main_v29 : IVec S16384 1 := cmpi .slt main_arg8 main_v28
  let main_v30 : IVec S16384 1 := andi main_v27 main_v29
  let main_c_11 : IVec S_ 32 := constantI S_ 32 16#32
  let main_v31 : IVec S16384 32 := broadcastInDim S16384 ![] bcast_S_S16384 main_c_11
  let main_v32 : IVec S16384 32 := muli main_arg7 main_v31
  let main_v33 : IVec S16384 32 := addi main_v32 main_arg8
  let main_v34 : IVec S16384 1 := cmpi .eq main_v33 main_v0
  fn_part2 (F := F) main_arg4 main_arg5 main_arg6 main_arg14 main_arg16 main_arg18 main_arg20 main_v5 main_v10 main_v15 main_v20 main_v25 main_v30 main_v34

def fn {F : FTy → Type} [FloatOps F] (main_arg0 : IVec S16384x7 32) (main_arg1 : IVec S16384 32) (main_arg2 : IVec S16384 32) (main_arg3 : IVec S16384 32) (main_arg4 : FVec F S16384x2 .f32) (main_arg5 : FVec F S16384x9 .f32) (main_arg6 : FVec F S16384x16 .f32) (main_arg7 : IVec S16384 32) (main_arg8 : IVec S16384 32) (main_arg9 : FVec F S53x128 .f32) (main_arg10 : FVec F S2x128 .f32) (main_arg11 : FVec F S9x128 .f32) (main_arg12 : FVec F S9x128 .f32) (main_arg13 : FVec F S10x128 .f32) (main_arg14 : FVec F S128x2 .f32) (main_arg15 : FVec F S128 .f32) (main_arg16 : FVec F S128x9 .f32) (main_arg17 : FVec F S128 .f32) (main_arg18 : FVec F S128x16 .f32) (main_arg19 : FVec F S128 .f32) (main_arg20 : FVec F S128x896 .f32) (main_arg21 : FVec F S128 .f32) (main_arg22 : FVec F S128 .f32) (main_arg23 : FVec F S128 .f32) : IVec S16384x7 1 × IVec S16384 1 × IVec S16384 1 × IVec S16384 1 × IVec S16384 1 × IVec S16384 1 × IVec S16384 1 × IVec S16384x2 1 × IVec S16384x9 1 × IVec S16384x16 1 × IVec S128x2 1 × IVec S128x9 1 × IVec S128x16 1 × IVec S128x384 1 :=
  let main_v0 : IVec S16384 32 := iotaInDim S16384 32 0
  let main_c : IVec S_ 32 := constantI S_ 32 0#32
  let main_v1 : IVec S16384x7 32 := broadcastInDim S16384x7 ![] bcast_S_S16384x7 main_c
  let main_v2 : IVec S16384x7 1 := cmpi .sge main_arg0 main_v1
  let main_c_0 : IVec S_ 32 := constantI S_ 32 53#32
  let main_v3 : IVec S16384x7 32 := broadcastInDim S16384x7 ![] bcast_S_S16384x7 main_c_0
  let main_v4 : IVec S16384x7 1 := cmpi .slt main_arg0 main_v3
  let main_v5 : IVec S16384x7 1 := andi main_v2 main_v4
  let main_c_1 : IVec S_ 32 := constantI S_ 32 0#32
  let main_v6 : IVec S16384 32 := broadcastInDim S16384 ![] bcast_S_S16384 main_c_1
  let main_v7 : IVec S16384 1 := cmpi .sge main_arg1 main_v6
  let main_c_2 : IVec S_ 32 := constantI S_ 32 9#32
  let main_v8 : IVec S16384 32 := broadcastInDim S16384 ![] bcast_S_S16384 main_c_2
  let main_v9 : IVec S16384 1 := cmpi .slt main_arg1 main_v8
  let main_v10 : IVec S16384 1 := andi main_v7 main_v9
  let main_c_3 : IVec S_ 32 := constantI S_ 32 0#32
  let main_v11 : IVec S16384 32 := broadcastInDim S16384 ![] bcast_S_S16384 main_c_3
  let main_v12 : IVec S16384 1 := cmpi .sge main_arg2 main_v11
  let main_c_4 : IVec S_ 32 := constantI S_ 32 9#32
  let main_v13 : IVec S16384 32 := broadcastInDim S16384 ![] bcast_S_S16384 main_c_4
  let main_v14 : IVec S16384 1 := cmpi .slt main_arg2 main_v13
  let main_v15 : IVec S16384 1 := andi main_v12 main_v14
  let main_c_5 : IVec S_ 32 := constantI S_ 32 0#32
  let main_v16 : IVec S16384 32 := broadcastInDim S16384 ![] bcast_S_S16384 main_c_5
  fn_part1 (F := F) main_arg3 main_arg4 main_arg5 main_arg6 main_arg7 main_arg8 main_arg14 main_arg16 main_arg18 main_arg20 main_v0 main_v5 main_v10 main_v15 main_v16
-- ==== Kernel.lean ====
abbrev S16384x7 : Shape := ⟨2, ![16384, 7]⟩
abbrev S16384 : Shape := ⟨1, ![16384]⟩
abbrev S16384x2 : Shape := ⟨2, ![16384, 2]⟩
abbrev S16384x9 : Shape := ⟨2, ![16384, 9]⟩
abbrev S16384x16 : Shape := ⟨2, ![16384, 16]⟩
abbrev S53x128 : Shape := ⟨2, ![53, 128]⟩
abbrev S2x128 : Shape := ⟨2, ![2, 128]⟩
abbrev S9x128 : Shape := ⟨2, ![9, 128]⟩
abbrev S10x128 : Shape := ⟨2, ![10, 128]⟩
abbrev S128x2 : Shape := ⟨2, ![128, 2]⟩
abbrev S128 : Shape := ⟨1, ![128]⟩
abbrev S128x9 : Shape := ⟨2, ![128, 9]⟩
abbrev S128x16 : Shape := ⟨2, ![128, 16]⟩
abbrev S128x896 : Shape := ⟨2, ![128, 896]⟩
abbrev S16384x1 : Shape := ⟨2, ![16384, 1]⟩
abbrev S_ : Shape := ⟨0, ![]⟩
abbrev S16384x6 : Shape := ⟨2, ![16384, 6]⟩
abbrev S16384x27 : Shape := ⟨2, ![16384, 27]⟩
abbrev S64x128 : Shape := ⟨2, ![64, 128]⟩
abbrev S16x128 : Shape := ⟨2, ![16, 128]⟩
abbrev S1x128 : Shape := ⟨2, ![1, 128]⟩
abbrev S4x128 : Shape := ⟨2, ![4, 128]⟩
abbrev S114688x128 : Shape := ⟨2, ![114688, 128]⟩
abbrev S1024x112 : Shape := ⟨2, ![1024, 112]⟩
abbrev S2048x16 : Shape := ⟨2, ![2048, 16]⟩
abbrev S2048x27 : Shape := ⟨2, ![2048, 27]⟩
abbrev S14336x128 : Shape := ⟨2, ![14336, 128]⟩
abbrev S128x112 : Shape := ⟨2, ![128, 112]⟩
abbrev S128x128 : Shape := ⟨2, ![128, 128]⟩
abbrev S2048x1 : Shape := ⟨2, ![2048, 1]⟩
abbrev S2048x128 : Shape := ⟨2, ![2048, 128]⟩
abbrev S2048x2 : Shape := ⟨2, ![2048, 2]⟩
abbrev S2048x9 : Shape := ⟨2, ![2048, 9]⟩
abbrev S2048x64 : Shape := ⟨2, ![2048, 64]⟩
abbrev S2048 : Shape := ⟨1, ![2048]⟩
abbrev S1024x112x128 : Shape := ⟨3, ![1024, 112, 128]⟩

abbrev nBuf : Space → Nat
  | .hbm => 53
  | .vmem => 20
  | .smem => 0
  | _ => 0

abbrev bufTy : (tb : Table) → Fin (tcTables nBuf tb) → BufTy
  | .hbm, ⟨0, _⟩ => ⟨S16384x7, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384x2, .f32⟩
  | .hbm, ⟨5, _⟩ => ⟨S16384x9, .f32⟩
  | .hbm, ⟨6, _⟩ => ⟨S16384x16, .f32⟩
  | .hbm, ⟨7, _⟩ => ⟨S16384, .i32⟩
  | .hbm, ⟨8, _⟩ => ⟨S16384, .i32⟩
  | .hbm, ⟨9, _⟩ => ⟨S53x128, .f32⟩
  | .hbm, ⟨10, _⟩ => ⟨S2x128, .f32⟩
  | .hbm, ⟨11, _⟩ => ⟨S9x128, .f32⟩
  | .hbm, ⟨12, _⟩ => ⟨S9x128, .f32⟩
  | .hbm, ⟨13, _⟩ => ⟨S10x128, .f32⟩
  | .hbm, ⟨14, _⟩ => ⟨S128x2, .f32⟩
  | .hbm, ⟨15, _⟩ => ⟨S128, .f32⟩
  | .hbm, ⟨16, _⟩ => ⟨S128x9, .f32⟩
  | .hbm, ⟨17, _⟩ => ⟨S128, .f32⟩
  | .hbm, ⟨18, _⟩ => ⟨S128x16, .f32⟩
  | .hbm, ⟨19, _⟩ => ⟨S128, .f32⟩
  | .hbm, ⟨20, _⟩ => ⟨S128x896, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S16384x1, .i32⟩
  | .hbm, ⟨25, _⟩ => ⟨S16384x1, .i32⟩
  | .hbm, ⟨26, _⟩ => ⟨S16384x1, .i32⟩
  | .hbm, ⟨27, _⟩ => ⟨S_, .i32⟩
  | .hbm, ⟨28, _⟩ => ⟨S16384x6, .i32⟩
  | .hbm, ⟨29, _⟩ => ⟨S16384x16, .i32⟩
  | .hbm, ⟨30, _⟩ => ⟨S16384x27, .f32⟩
  | .hbm, ⟨31, _⟩ => ⟨S_, .i32⟩
  | .hbm, ⟨32, _⟩ => ⟨S_, .f32⟩
  | .hbm, ⟨33, _⟩ => ⟨S64x128, .f32⟩
  | .hbm, ⟨34, _⟩ => ⟨S_, .i32⟩
  | .hbm, ⟨35, _⟩ => ⟨S_, .f32⟩
  | .hbm, ⟨36, _⟩ => ⟨S16x128, .f32⟩
  | .hbm, ⟨37, _⟩ => ⟨S_, .i32⟩
  | .hbm, ⟨38, _⟩ => ⟨S_, .f32⟩
  | .hbm, ⟨39, _⟩ => ⟨S16x128, .f32⟩
  | .hbm, ⟨40, _⟩ => ⟨S_, .i32⟩
  | .hbm, ⟨41, _⟩ => ⟨S_, .f32⟩
  | .hbm, ⟨42, _⟩ => ⟨S16x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S4x128, .f32⟩
  | .hbm, ⟨48, _⟩ => ⟨S1x128, .f32⟩
  | .hbm, ⟨49, _⟩ => ⟨S1x128, .f32⟩
  | .hbm, ⟨50, _⟩ => ⟨S114688x128, .f32⟩
  | .hbm, ⟨51, _⟩ => ⟨S1024x112, .f32⟩
  | .hbm, ⟨52, _⟩ => ⟨S1024x112x128, .f32⟩
  | .local _ .vmem, ⟨0, _⟩ => ⟨S2048x16, .i32⟩
  | .local _ .vmem, ⟨1, _⟩ => ⟨S2048x16, .i32⟩
  | .local _ .vmem, ⟨2, _⟩ => ⟨S2048x27, .f32⟩
  | .local _ .vmem, ⟨3, _⟩ => ⟨S2048x27, .f32⟩
  | .local _ .vmem, ⟨4, _⟩ => ⟨S64x128, .f32⟩
  | .local _ .vmem, ⟨5, _⟩ => ⟨S2x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S128x896, .f32⟩
  | .local _ .vmem, ⟨10, _⟩ => ⟨S128x2, .f32⟩
  | .local _ .vmem, ⟨11, _⟩ => ⟨S128x9, .f32⟩
  | .local _ .vmem, ⟨12, _⟩ => ⟨S128x16, .f32⟩
  | .local _ .vmem, ⟨13, _⟩ => ⟨S4x128, .f32⟩
  | .local _ .vmem, ⟨14, _⟩ => ⟨S1x128, .f32⟩
  | .local _ .vmem, ⟨15, _⟩ => ⟨S1x128, .f32⟩
  | .local _ .vmem, ⟨16, _⟩ => ⟨S14336x128, .f32⟩
  | .local _ .vmem, ⟨17, _⟩ => ⟨S14336x128, .f32⟩
  | .local _ .vmem, ⟨18, _⟩ => ⟨S128x112, .f32⟩
  | .local _ .vmem, ⟨19, _⟩ => ⟨S128x112, .f32⟩
  | _, _ => ⟨S16384x7, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_c : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_call0_v0 : Ref sig .tc := ⟨.hbm, 32, rfl⟩
abbrev main_v6 : Ref sig .tc := ⟨.hbm, 33, rfl⟩
abbrev main_c_1 : Ref sig .tc := ⟨.hbm, 34, rfl⟩
abbrev main_call1_v0 : Ref sig .tc := ⟨.hbm, 35, rfl⟩
abbrev main_v7 : Ref sig .tc := ⟨.hbm, 36, rfl⟩
abbrev main_c_2 : Ref sig .tc := ⟨.hbm, 37, rfl⟩
abbrev main_call2_v0 : Ref sig .tc := ⟨.hbm, 38, rfl⟩
abbrev main_v8 : Ref sig .tc := ⟨.hbm, 39, rfl⟩
abbrev main_c_3 : Ref sig .tc := ⟨.hbm, 40, rfl⟩
abbrev main_call3_v0 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17_0 : Ref sig .tc := ⟨.hbm, 50, rfl⟩
abbrev main_v17_1 : Ref sig .tc := ⟨.hbm, 51, rfl⟩
abbrev main_v18 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x27 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x896 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x9 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S14336x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x112 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S16384x7 : Shape := ⟨2, ![16384, 7]⟩
abbrev S16384 : Shape := ⟨1, ![16384]⟩
abbrev S16384x2 : Shape := ⟨2, ![16384, 2]⟩
abbrev S16384x9 : Shape := ⟨2, ![16384, 9]⟩
abbrev S16384x16 : Shape := ⟨2, ![16384, 16]⟩
abbrev S53x128 : Shape := ⟨2, ![53, 128]⟩
abbrev S2x128 : Shape := ⟨2, ![2, 128]⟩
abbrev S9x128 : Shape := ⟨2, ![9, 128]⟩
abbrev S10x128 : Shape := ⟨2, ![10, 128]⟩
abbrev S128x2 : Shape := ⟨2, ![128, 2]⟩
abbrev S128 : Shape := ⟨1, ![128]⟩
abbrev S128x9 : Shape := ⟨2, ![128, 9]⟩
abbrev S128x16 : Shape := ⟨2, ![128, 16]⟩
abbrev S128x896 : Shape := ⟨2, ![128, 896]⟩
abbrev S_ : Shape := ⟨0, ![]⟩
abbrev S16384x7x1 : Shape := ⟨3, ![16384, 7, 1]⟩
abbrev S1 : Shape := ⟨1, ![1]⟩
abbrev S1x1x1 : Shape := ⟨3, ![1, 1, 1]⟩
abbrev S16384x7x128 : Shape := ⟨3, ![16384, 7, 128]⟩
abbrev S16384x1 : Shape := ⟨2, ![16384, 1]⟩
abbrev S1x1 : Shape := ⟨2, ![1, 1]⟩
abbrev S16384x128 : Shape := ⟨2, ![16384, 128]⟩
abbrev S1x128 : Shape := ⟨2, ![1, 128]⟩
abbrev S16x128 : Shape := ⟨2, ![16, 128]⟩
abbrev S16384x768 : Shape := ⟨2, ![16384, 768]⟩
abbrev S16384x1x768 : Shape := ⟨3, ![16384, 1, 768]⟩
abbrev S16384x7x768 : Shape := ⟨3, ![16384, 7, 768]⟩
abbrev S16384x7x896 : Shape := ⟨3, ![16384, 7, 896]⟩
abbrev S114688x896 : Shape := ⟨2, ![114688, 896]⟩
abbrev S896x128 : Shape := ⟨2, ![896, 128]⟩
abbrev S114688x128 : Shape := ⟨2, ![114688, 128]⟩
abbrev S7 : Shape := ⟨1, ![7]⟩
abbrev S7x1 : Shape := ⟨2, ![7, 1]⟩
abbrev S7x128 : Shape := ⟨2, ![7, 128]⟩
abbrev S1x7x128 : Shape := ⟨3, ![1, 7, 128]⟩
abbrev S1x1x128 : Shape := ⟨3, ![1, 1, 128]⟩
abbrev S114688 : Shape := ⟨1, ![114688]⟩
abbrev S1x7 : Shape := ⟨2, ![1, 7]⟩
abbrev S1024x112x128 : Shape := ⟨3, ![1024, 112, 128]⟩
abbrev S114688x1 : Shape := ⟨2, ![114688, 1]⟩
abbrev S114688x2 : Shape := ⟨2, ![114688, 2]⟩
abbrev S1024x112 : Shape := ⟨2, ![1024, 112]⟩

abbrev nBuf : Space → Nat
  | .hbm => 272
  | .vmem => 0
  | .smem => 0
  | _ => 0

abbrev hbmTy0_0 (i : Nat) : BufTy := match i % 128 with
  | 0 => ⟨S16384x7, .i32⟩
  | 1 => ⟨S16384, .i32⟩
  | 2 => ⟨S16384, .i32⟩
  | 3 => ⟨S16384, .i32⟩
  | 4 => ⟨S16384x2, .f32⟩
  | 5 => ⟨S16384x9, .f32⟩
  | 6 => ⟨S16384x16, .f32⟩
  | 7 => ⟨S16384, .i32⟩
  | 8 => ⟨S16384, .i32⟩
  | 9 => ⟨S53x128, .f32⟩
  | 10 => ⟨S2x128, .f32⟩
  | 11 => ⟨S9x128, .f32⟩
  | 12 => ⟨S9x128, .f32⟩
  | 13 => ⟨S10x128, .f32⟩
  | 14 => ⟨S128x2, .f32⟩
  | 15 => ⟨S128, .f32⟩
  | 16 => ⟨S128x9, .f32⟩
  | 17 => ⟨S128, .f32⟩
  | 18 => ⟨S128x16, .f32⟩
  | 19 => ⟨S128, .f32⟩
  | 20 => ⟨S128x896, .f32⟩
  | 21 => ⟨S128, .f32⟩
  | 22 => ⟨S128, .f32⟩
  | 23 => ⟨S128, .f32⟩
  | 24 => ⟨S_, .i32⟩
  | 25 => ⟨S16384x7, .i32⟩
  | 26 => ⟨S16384x7, .i1⟩
  | 27 => ⟨S_, .i32⟩
  | 28 => ⟨S16384x7, .i32⟩
  | 29 => ⟨S16384x7, .i32⟩
  | 30 => ⟨S16384x7, .i32⟩
  | 31 => ⟨S16384x7x1, .i32⟩
  | 32 => ⟨S1, .i32⟩
  | 33 => ⟨S_, .i32⟩
  | 34 => ⟨S16384x7x1, .i32⟩
  | 35 => ⟨S16384x7x1, .i1⟩
  | 36 => ⟨S1x1x1, .i32⟩
  | 37 => ⟨S16384x7x1, .i32⟩
  | 38 => ⟨S16384x7x1, .i1⟩
  | 39 => ⟨S16384x7x1, .i1⟩
  | 40 => ⟨S_, .i1⟩
  | 41 => ⟨S16384x7, .i1⟩
  | 42 => ⟨S16384x7x128, .f32⟩
  | 43 => ⟨S16384x7x128, .i1⟩
  | 44 => ⟨S_, .f32⟩
  | 45 => ⟨S16384x7x128, .f32⟩
  | 46 => ⟨S16384x7x128, .f32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S1, .i32⟩
  | 56 => ⟨S_, .i32⟩
  | 57 => ⟨S16384x1, .i32⟩
  | 58 => ⟨S16384x1, .i1⟩
  | 59 => ⟨S1x1, .i32⟩
  | 60 => ⟨S16384x1, .i32⟩
  | 61 => ⟨S16384x1, .i1⟩
  | 62 => ⟨S16384x1, .i1⟩
  | 63 => ⟨S_, .i1⟩
  | 64 => ⟨S16384, .i1⟩
  | 65 => ⟨S16384x128, .f32⟩
  | 66 => ⟨S16384x128, .i1⟩
  | 67 => ⟨S_, .f32⟩
  | 68 => ⟨S16384x128, .f32⟩
  | 69 => ⟨S16384x128, .f32⟩
  | 70 => ⟨S_, .i32⟩
  | 71 => ⟨S16384, .i32⟩
  | 72 => ⟨S16384, .i1⟩
  | 73 => ⟨S_, .i32⟩
  | 74 => ⟨S16384, .i32⟩
  | 75 => ⟨S16384, .i32⟩
  | 76 => ⟨S16384, .i32⟩
  | 77 => ⟨S16384x1, .i32⟩
  | 78 => ⟨S1, .i32⟩
  | 79 => ⟨S_, .i32⟩
  | 80 => ⟨S16384x1, .i32⟩
  | 81 => ⟨S16384x1, .i1⟩
  | 82 => ⟨S1x1, .i32⟩
  | 83 => ⟨S16384x1, .i32⟩
  | 84 => ⟨S16384x1, .i1⟩
  | 85 => ⟨S16384x1, .i1⟩
  | 86 => ⟨S_, .i1⟩
  | 87 => ⟨S16384, .i1⟩
  | 88 => ⟨S16384x128, .f32⟩
  | 89 => ⟨S16384x128, .i1⟩
  | 90 => ⟨S_, .f32⟩
  | 91 => ⟨S16384x128, .f32⟩
  | 92 => ⟨S16384x128, .f32⟩
  | 93 => ⟨S_, .i32⟩
  | 94 => ⟨S16384, .i32⟩
  | 95 => ⟨S16384, .i1⟩
  | 96 => ⟨S_, .i32⟩
  | 97 => ⟨S16384, .i32⟩
  | 98 => ⟨S16384, .i32⟩
  | 99 => ⟨S16384, .i32⟩
  | 100 => ⟨S16384x1, .i32⟩
  | 101 => ⟨S1, .i32⟩
  | 102 => ⟨S_, .i32⟩
  | 103 => ⟨S16384x1, .i32⟩
  | 104 => ⟨S16384x1, .i1⟩
  | 105 => ⟨S1x1, .i32⟩
  | 106 => ⟨S16384x1, .i32⟩
  | 107 => ⟨S16384x1, .i1⟩
  | 108 => ⟨S16384x1, .i1⟩
  | 109 => ⟨S_, .i1⟩
  | 110 => ⟨S16384, .i1⟩
  | 111 => ⟨S16384x128, .f32⟩
  | 112 => ⟨S16384x128, .i1⟩
  | 113 => ⟨S_, .f32⟩
  | 114 => ⟨S16384x128, .f32⟩
  | 115 => ⟨S16384x128, .f32⟩
  | 116 => ⟨S2x128, .f32⟩
  | 117 => ⟨S16384x128, .f32⟩
  | 118 => ⟨S1x128, .f32⟩
  | 119 => ⟨S16384x128, .f32⟩
  | 120 => ⟨S16384x128, .f32⟩
  | 121 => ⟨S9x128, .f32⟩
  | 122 => ⟨S16384x128, .f32⟩
  | 123 => ⟨S1x128, .f32⟩
  | 124 => ⟨S16384x128, .f32⟩
  | 125 => ⟨S16384x128, .f32⟩
  | 126 => ⟨S16x128, .f32⟩
  | 127 => ⟨S16384x128, .f32⟩
  | _ => ⟨S16384x7, .i32⟩

abbrev hbmTy0_1 (i : Nat) : BufTy := match i % 128 with
  | 0 => ⟨S1x128, .f32⟩
  | 1 => ⟨S16384x128, .f32⟩
  | 2 => ⟨S16384x128, .f32⟩
  | 3 => ⟨S16384x768, .f32⟩
  | 4 => ⟨S16384x1x768, .f32⟩
  | 5 => ⟨S16384x7x768, .f32⟩
  | 6 => ⟨S16384x7x896, .f32⟩
  | 7 => ⟨S114688x896, .f32⟩
  | 8 => ⟨S896x128, .f32⟩
  | 9 => ⟨S114688x128, .f32⟩
  | 10 => ⟨S1x128, .f32⟩
  | 11 => ⟨S114688x128, .f32⟩
  | 12 => ⟨S114688x128, .f32⟩
  | 13 => ⟨S16384x7x128, .f32⟩
  | 14 => ⟨S7, .i32⟩
  | 15 => ⟨S_, .i32⟩
  | 16 => ⟨S7, .i32⟩
  | 17 => ⟨S7, .i1⟩
  | 18 => ⟨S7, .i32⟩
  | 19 => ⟨S_, .i32⟩
  | 20 => ⟨S7, .i32⟩
  | 21 => ⟨S7, .i1⟩
  | 22 => ⟨S_, .i32⟩
  | 23 => ⟨S7, .i32⟩
  | 24 => ⟨S7, .i32⟩
  | 25 => ⟨S7, .i32⟩
  | 26 => ⟨S7x1, .i32⟩
  | 27 => ⟨S1, .i32⟩
  | 28 => ⟨S_, .i32⟩
  | 29 => ⟨S7x1, .i32⟩
  | 30 => ⟨S7x1, .i1⟩
  | 31 => ⟨S1x1, .i32⟩
  | 32 => ⟨S7x1, .i32⟩
  | 33 => ⟨S7x1, .i1⟩
  | 34 => ⟨S7x1, .i1⟩
  | 35 => ⟨S_, .i1⟩
  | 36 => ⟨S7, .i1⟩
  | 37 => ⟨S7x128, .f32⟩
  | 38 => ⟨S7x128, .i1⟩
  | 39 => ⟨S_, .f32⟩
  | 40 => ⟨S7x128, .f32⟩
  | 41 => ⟨S7x128, .f32⟩
  | 42 => ⟨S1x7x128, .f32⟩
  | 43 => ⟨S16384x7x128, .f32⟩
  | 44 => ⟨S16384x7x128, .f32⟩
  | 45 => ⟨S_, .f32⟩
  | 46 => ⟨S16384x7, .f32⟩
  | 47 => ⟨S16384x7x1, .f32⟩
  | 48 => ⟨S_, .f32⟩
  | 49 => ⟨S16384x7x1, .f32⟩
  | 50 => ⟨S16384x7x1, .f32⟩
  | 51 => ⟨S_, .i32⟩
  | 52 => ⟨S_, .f32⟩
  | 53 => ⟨S16384x7, .f32⟩
  | 54 => ⟨S16384x7x1, .f32⟩
  | 55 => ⟨S_, .f32⟩
  | 56 => ⟨S16384x7x1, .f32⟩
  | 57 => ⟨S16384x7x1, .f32⟩
  | 58 => ⟨S16384x7x128, .f32⟩
  | 59 => ⟨S16384x7x128, .f32⟩
  | 60 => ⟨S16384x7x128, .f32⟩
  | 61 => ⟨S_, .f32⟩
  | 62 => ⟨S_, .f32⟩
  | 63 => ⟨S_, .f32⟩
  | 64 => ⟨S_, .f32⟩
  | 65 => ⟨S16384x7, .f32⟩
  | 66 => ⟨S16384x7x1, .f32⟩
  | 67 => ⟨S16384x7x1, .f32⟩
  | 68 => ⟨S16384x7x1, .f32⟩
  | 69 => ⟨S_, .f32⟩
  | 70 => ⟨S_, .i1⟩
  | 71 => ⟨S_, .f32⟩
  | 72 => ⟨S_, .f32⟩
  | 73 => ⟨S16384x7x1, .f32⟩
  | 74 => ⟨S16384x7x1, .f32⟩
  | 75 => ⟨S16384x7x128, .f32⟩
  | 76 => ⟨S16384x7x128, .f32⟩
  | 77 => ⟨S1x1x128, .f32⟩
  | 78 => ⟨S16384x7x128, .f32⟩
  | 79 => ⟨S16384x7x128, .f32⟩
  | 80 => ⟨S_, .f32⟩
  | 81 => ⟨S16384x7x1, .f32⟩
  | 82 => ⟨S16384x7x1, .f32⟩
  | 83 => ⟨S16384x7x1, .f32⟩
  | 84 => ⟨S16384x7x128, .f32⟩
  | 85 => ⟨S16384x7x128, .f32⟩
  | 86 => ⟨S1x1x128, .f32⟩
  | 87 => ⟨S16384x7x128, .f32⟩
  | 88 => ⟨S16384x7x128, .f32⟩
  | 89 => ⟨S16384x7, .i32⟩
  | 90 => ⟨S114688, .i32⟩
  | 91 => ⟨S16384x1, .i32⟩
  | 92 => ⟨S_, .i32⟩
  | 93 => ⟨S16384x1, .i32⟩
  | 94 => ⟨S16384x1, .i32⟩
  | 95 => ⟨S7, .i32⟩
  | 96 => ⟨S1x7, .i32⟩
  | 97 => ⟨S16384x7, .i32⟩
  | 98 => ⟨S16384x7, .i32⟩
  | 99 => ⟨S16384x7, .i32⟩
  | 100 => ⟨S114688, .i32⟩
  | 101 => ⟨S_, .f32⟩
  | 102 => ⟨S1024x112x128, .f32⟩
  | 103 => ⟨S114688x128, .f32⟩
  | 104 => ⟨S_, .i32⟩
  | 105 => ⟨S114688, .i32⟩
  | 106 => ⟨S114688, .i1⟩
  | 107 => ⟨S_, .i32⟩
  | 108 => ⟨S114688, .i32⟩
  | 109 => ⟨S114688, .i32⟩
  | 110 => ⟨S114688, .i32⟩
  | 111 => ⟨S_, .i32⟩
  | 112 => ⟨S114688, .i32⟩
  | 113 => ⟨S114688, .i1⟩
  | 114 => ⟨S_, .i32⟩
  | 115 => ⟨S114688, .i32⟩
  | 116 => ⟨S114688, .i32⟩
  | 117 => ⟨S114688, .i32⟩
  | 118 => ⟨S114688x1, .i32⟩
  | 119 => ⟨S114688x1, .i32⟩
  | 120 => ⟨S114688x2, .i32⟩
  | 121 => ⟨S1024x112x128, .f32⟩
  | 122 => ⟨S_, .f32⟩
  | 123 => ⟨S1024x112, .f32⟩
  | 124 => ⟨S_, .i32⟩
  | 125 => ⟨S114688, .i32⟩
  | 126 => ⟨S114688, .i1⟩
  | 127 => ⟨S_, .i32⟩
  | _ => ⟨S16384x7, .i32⟩

abbrev hbmTy0_2 (i : Nat) : BufTy := match i % 128 with
  | 0 => ⟨S114688, .i32⟩
  | 1 => ⟨S114688, .i32⟩
  | 2 => ⟨S114688, .i32⟩
  | 3 => ⟨S_, .i32⟩
  | 4 => ⟨S114688, .i32⟩
  | 5 => ⟨S114688, .i1⟩
  | 6 => ⟨S_, .i32⟩
  | 7 => ⟨S114688, .i32⟩
  | 8 => ⟨S114688, .i32⟩
  | 9 => ⟨S114688, .i32⟩
  | 10 => ⟨S114688x1, .i32⟩
  | 11 => ⟨S114688x1, .i32⟩
  | 12 => ⟨S114688x2, .i32⟩
  | 13 => ⟨S_, .f32⟩
  | 14 => ⟨S114688, .f32⟩
  | 15 => ⟨S1024x112, .f32⟩
  | _ => ⟨S16384x7, .i32⟩

abbrev hbmTy (i : Nat) : BufTy := match i / 128 with
  | 0 => hbmTy0_0 i
  | 1 => hbmTy0_1 i
  | 2 => hbmTy0_2 i
  | _ => ⟨S16384x7, .i32⟩

abbrev bufTy : (tb : Table) → Fin (tcTables nBuf tb) → BufTy
  | .hbm, ⟨i, _⟩ => hbmTy i
  | _, _ => ⟨S16384x7, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v0 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v1 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v2 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v3 : Ref sig .tc := ⟨.hbm, 115, rfl⟩
abbrev main_v4 : Ref sig .tc := ⟨.hbm, 116, rfl⟩
abbrev main_v5 : Ref sig .tc := ⟨.hbm, 117, rfl⟩
abbrev main_v6 : Ref sig .tc := ⟨.hbm, 118, rfl⟩
abbrev main_v7 : Ref sig .tc := ⟨.hbm, 119, rfl⟩
abbrev main_v8 : Ref sig .tc := ⟨.hbm, 120, rfl⟩
abbrev main_v9 : Ref sig .tc := ⟨.hbm, 121, rfl⟩
abbrev main_v10 : Ref sig .tc := ⟨.hbm, 122, rfl⟩
abbrev main_v11 : Ref sig .tc := ⟨.hbm, 123, rfl⟩
abbrev main_v12 : Ref sig .tc := ⟨.hbm, 124, rfl⟩
abbrev main_v13 : Ref sig .tc := ⟨.hbm, 125, rfl⟩
abbrev main_v14 : Ref sig .tc := ⟨.hbm, 126, rfl⟩
abbrev main_v15 : Ref sig .tc := ⟨.hbm, 127, rfl⟩
abbrev main_v16 : Ref sig .tc := ⟨.hbm, 128, rfl⟩
abbrev main_v17 : Ref sig .tc := ⟨.hbm, 129, rfl⟩
abbrev main_v18 : Ref sig .tc := ⟨.hbm, 130, rfl⟩
abbrev main_v19 : Ref sig .tc := ⟨.hbm, 131, rfl⟩
abbrev main_v20 : Ref sig .tc := ⟨.hbm, 132, rfl⟩
abbrev main_v21 : Ref sig .tc := ⟨.hbm, 133, rfl⟩
abbrev main_v22 : Ref sig .tc := ⟨.hbm, 134, rfl⟩
abbrev main_v23 : Ref sig .tc := ⟨.hbm, 135, rfl⟩
abbrev main_v24 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_c : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_call4_c : Ref sig .tc := ⟨.hbm, 147, rfl⟩
abbrev main_call4_v0 : Ref sig .tc := ⟨.hbm, 148, rfl⟩
abbrev main_call4_v1 : Ref sig .tc := ⟨.hbm, 149, rfl⟩
abbrev main_call4_c_0 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_call4_v5 : Ref sig .tc := ⟨.hbm, 154, rfl⟩
abbrev main_call4_c_1 : Ref sig .tc := ⟨.hbm, 155, rfl⟩
abbrev main_call4_c_2 : Ref sig .tc := ⟨.hbm, 156, rfl⟩
abbrev main_call4_v6 : Ref sig .tc := ⟨.hbm, 157, rfl⟩
abbrev main_call4_v7 : Ref sig .tc := ⟨.hbm, 158, rfl⟩
abbrev main_call4_v8 : Ref sig .tc := ⟨.hbm, 159, rfl⟩
abbrev main_call4_v9 : Ref sig .tc := ⟨.hbm, 160, rfl⟩
abbrev main_call4_v10 : Ref sig .tc := ⟨.hbm, 161, rfl⟩
abbrev main_call4_v11 : Ref sig .tc := ⟨.hbm, 162, rfl⟩
abbrev main_call4_c_3 : Ref sig .tc := ⟨.hbm, 163, rfl⟩
abbrev main_call4_v12 : Ref sig .tc := ⟨.hbm, 164, rfl⟩
abbrev main_call4_v13 : Ref sig .tc := ⟨.hbm, 165, rfl⟩
abbrev main_call4_v14 : Ref sig .tc := ⟨.hbm, 166, rfl⟩
abbrev main_call4_cst : Ref sig .tc := ⟨.hbm, 167, rfl⟩
abbrev main_call4_v15 : Ref sig .tc := ⟨.hbm, 168, rfl⟩
abbrev main_v34 : Ref sig .tc := ⟨.hbm, 169, rfl⟩
abbrev main_v35 : Ref sig .tc := ⟨.hbm, 170, rfl⟩
abbrev main_v36 : Ref sig .tc := ⟨.hbm, 171, rfl⟩
abbrev main_v37 : Ref sig .tc := ⟨.hbm, 172, rfl⟩
abbrev main_cst : Ref sig .tc := ⟨.hbm, 173, rfl⟩
abbrev main_v38 : Ref sig .tc := ⟨.hbm, 174, rfl⟩
abbrev main_v39 : Ref sig .tc := ⟨.hbm, 175, rfl⟩
abbrev main_cst_0 : Ref sig .tc := ⟨.hbm, 176, rfl⟩
abbrev main_v40 : Ref sig .tc := ⟨.hbm, 177, rfl⟩
abbrev main_v41 : Ref sig .tc := ⟨.hbm, 178, rfl⟩
abbrev main_c_1 : Ref sig .tc := ⟨.hbm, 179, rfl⟩
abbrev main_call5_cst : Ref sig .tc := ⟨.hbm, 180, rfl⟩
abbrev main_call5_v0 : Ref sig .tc := ⟨.hbm, 181, rfl⟩
abbrev main_call5_v1 : Ref sig .tc := ⟨.hbm, 182, rfl⟩
abbrev main_call5_cst_0 : Ref sig .tc := ⟨.hbm, 183, rfl⟩
abbrev main_call5_v2 : Ref sig .tc := ⟨.hbm, 184, rfl⟩
abbrev main_call5_v3 : Ref sig .tc := ⟨.hbm, 185, rfl⟩
abbrev main_call5_v4 : Ref sig .tc := ⟨.hbm, 186, rfl⟩
abbrev main_call5_v5 : Ref sig .tc := ⟨.hbm, 187, rfl⟩
abbrev main_call5_v6 : Ref sig .tc := ⟨.hbm, 188, rfl⟩
abbrev main_call5_v7 : Ref sig .tc := ⟨.hbm, 189, rfl⟩
abbrev main_call5_cst_1 : Ref sig .tc := ⟨.hbm, 190, rfl⟩
abbrev main_call5_v8 : Ref sig .tc := ⟨.hbm, 191, rfl⟩
abbrev main_call5_cst_2 : Ref sig .tc := ⟨.hbm, 192, rfl⟩
abbrev main_call5_v9 : Ref sig .tc := ⟨.hbm, 193, rfl⟩
abbrev main_call5_v10 : Ref sig .tc := ⟨.hbm, 194, rfl⟩
abbrev main_call5_v11 : Ref sig .tc := ⟨.hbm, 195, rfl⟩
abbrev main_call5_v12 : Ref sig .tc := ⟨.hbm, 196, rfl⟩
abbrev main_call5_cst_3 : Ref sig .tc := ⟨.hbm, 197, rfl⟩
abbrev main_call5_v13 : Ref sig .tc := ⟨.hbm, 198, rfl⟩
abbrev main_call5_cst_4 : Ref sig .tc := ⟨.hbm, 199, rfl⟩
abbrev main_call5_call0_v0 : Ref sig .tc := ⟨.hbm, 200, rfl⟩
abbrev main_call5_call0_v1 : Ref sig .tc := ⟨.hbm, 201, rfl⟩
abbrev main_v42 : Ref sig .tc := ⟨.hbm, 202, rfl⟩
abbrev main_v43 : Ref sig .tc := ⟨.hbm, 203, rfl⟩
abbrev main_v44 : Ref sig .tc := ⟨.hbm, 204, rfl⟩
abbrev main_v45 : Ref sig .tc := ⟨.hbm, 205, rfl⟩
abbrev main_v46 : Ref sig .tc := ⟨.hbm, 206, rfl⟩
abbrev main_v47 : Ref sig .tc := ⟨.hbm, 207, rfl⟩
abbrev main_cst_2 : Ref sig .tc := ⟨.hbm, 208, rfl⟩
abbrev main_v48 : Ref sig .tc := ⟨.hbm, 209, rfl⟩
abbrev main_v49 : Ref sig .tc := ⟨.hbm, 210, rfl⟩
abbrev main_v50 : Ref sig .tc := ⟨.hbm, 211, rfl⟩
abbrev main_v51 : Ref sig .tc := ⟨.hbm, 212, rfl⟩
abbrev main_v52 : Ref sig .tc := ⟨.hbm, 213, rfl⟩
abbrev main_v53 : Ref sig .tc := ⟨.hbm, 214, rfl⟩
abbrev main_v54 : Ref sig .tc := ⟨.hbm, 215, rfl⟩
abbrev main_v55 : Ref sig .tc := ⟨.hbm, 216, rfl⟩
abbrev main_v56 : Ref sig .tc := ⟨.hbm, 217, rfl⟩
abbrev main_v57 : Ref sig .tc := ⟨.hbm, 218, rfl⟩
abbrev main_v58 : Ref sig .tc := ⟨.hbm, 219, rfl⟩
abbrev main_c_3 : Ref sig .tc := ⟨.hbm, 220, rfl⟩
abbrev main_v59 : Ref sig .tc := ⟨.hbm, 221, rfl⟩
abbrev main_v60 : Ref sig .tc := ⟨.hbm, 222, rfl⟩
abbrev main_v61 : Ref sig .tc := ⟨.hbm, 223, rfl⟩
abbrev main_v62 : Ref sig .tc := ⟨.hbm, 224, rfl⟩
abbrev main_v63 : Ref sig .tc := ⟨.hbm, 225, rfl⟩
abbrev main_v64 : Ref sig .tc := ⟨.hbm, 226, rfl⟩
abbrev main_v65 : Ref sig .tc := ⟨.hbm, 227, rfl⟩
abbrev main_v66 : Ref sig .tc := ⟨.hbm, 228, rfl⟩
abbrev main_cst_4 : Ref sig .tc := ⟨.hbm, 229, rfl⟩
abbrev main_v67 : Ref sig .tc := ⟨.hbm, 230, rfl⟩
abbrev main_v68 : Ref sig .tc := ⟨.hbm, 231, rfl⟩
abbrev main_c_5 : Ref sig .tc := ⟨.hbm, 232, rfl⟩
abbrev main_v69 : Ref sig .tc := ⟨.hbm, 233, rfl⟩
abbrev main_v70 : Ref sig .tc := ⟨.hbm, 234, rfl⟩
abbrev main_c_6 : Ref sig .tc := ⟨.hbm, 235, rfl⟩
abbrev main_v71 : Ref sig .tc := ⟨.hbm, 236, rfl⟩
abbrev main_v72 : Ref sig .tc := ⟨.hbm, 237, rfl⟩
abbrev main_v73 : Ref sig .tc := ⟨.hbm, 238, rfl⟩
abbrev main_c_7 : Ref sig .tc := ⟨.hbm, 239, rfl⟩
abbrev main_v74 : Ref sig .tc := ⟨.hbm, 240, rfl⟩
abbrev main_v75 : Ref sig .tc := ⟨.hbm, 241, rfl⟩
abbrev main_c_8 : Ref sig .tc := ⟨.hbm, 242, rfl⟩
abbrev main_v76 : Ref sig .tc := ⟨.hbm, 243, rfl⟩
abbrev main_v77 : Ref sig .tc := ⟨.hbm, 244, rfl⟩
abbrev main_v78 : Ref sig .tc := ⟨.hbm, 245, rfl⟩
abbrev main_v79 : Ref sig .tc := ⟨.hbm, 246, rfl⟩
abbrev main_v80 : Ref sig .tc := ⟨.hbm, 247, rfl⟩
abbrev main_v81 : Ref sig .tc := ⟨.hbm, 248, rfl⟩
abbrev main_v82 : Ref sig .tc := ⟨.hbm, 249, rfl⟩
abbrev main_cst_9 : Ref sig .tc := ⟨.hbm, 250, rfl⟩
abbrev main_v83 : Ref sig .tc := ⟨.hbm, 251, rfl⟩
abbrev main_c_10 : Ref sig .tc := ⟨.hbm, 252, rfl⟩
abbrev main_v84 : Ref sig .tc := ⟨.hbm, 253, rfl⟩
abbrev main_v85 : Ref sig .tc := ⟨.hbm, 254, rfl⟩
abbrev main_c_11 : Ref sig .tc := ⟨.hbm, 255, rfl⟩
abbrev main_v86 : Ref sig .tc := ⟨.hbm, 256, rfl⟩
abbrev main_v87 : Ref sig .tc := ⟨.hbm, 257, rfl⟩
abbrev main_v88 : Ref sig .tc := ⟨.hbm, 258, rfl⟩
abbrev main_c_12 : Ref sig .tc := ⟨.hbm, 259, rfl⟩
abbrev main_v89 : Ref sig .tc := ⟨.hbm, 260, rfl⟩
abbrev main_v90 : Ref sig .tc := ⟨.hbm, 261, rfl⟩
abbrev main_c_13 : Ref sig .tc := ⟨.hbm, 262, rfl⟩
abbrev main_v91 : Ref sig .tc := ⟨.hbm, 263, rfl⟩
abbrev main_v92 : Ref sig .tc := ⟨.hbm, 264, rfl⟩
abbrev main_v93 : Ref sig .tc := ⟨.hbm, 265, rfl⟩
abbrev main_v94 : Ref sig .tc := ⟨.hbm, 266, rfl⟩
abbrev main_v95 : Ref sig .tc := ⟨.hbm, 267, rfl⟩
abbrev main_v96 : Ref sig .tc := ⟨.hbm, 268, rfl⟩
abbrev main_cst_14 : Ref sig .tc := ⟨.hbm, 269, rfl⟩
abbrev main_v97 : Ref sig .tc := ⟨.hbm, 270, rfl⟩
abbrev main_v98 : Ref sig .tc := ⟨.hbm, 271, rfl⟩

abbrev nD : Nat := 1
abbrev τ : Topo := Topo.v7x

variable {F : FTy → Type} [FloatOps F]
-- ==== Proof.KernelIdealFrame.lean ====
/- The frame of `KernelIdeal`, by hand, because its seven row stores are strided: the values one grid point's body
   computes from its input blocks (`Blocks` and the definitions after it), the seven strided pieces of the output block and
   why they cover it (`rows_cover`), the body's triple, the proof data of the pipeline, the launch, and the frame. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point's inputs and the values computed from them -/

/-- The fourteen input blocks of one grid point. -/
structure Blocks (F : FTy → Type) where
  idx : Vec F S2048x16 .i32
  flt : Vec F S2048x27 .f32
  cards : Vec F S64x128 .f32
  street : Vec F S2x128 .f32
  hero : Vec F S16x128 .f32
  acting : Vec F S16x128 .f32
  players : Vec F S16x128 .f32
  comb : Vec F S128x896 .f32
  wScalar : Vec F S128x2 .f32
  wBet : Vec F S128x9 .f32
  wAct : Vec F S128x16 .f32
  biases : Vec F S4x128 .f32
  gamma : Vec F S1x128 .f32
  beta : Vec F S1x128 .f32

variable (b : Blocks F)

/-- The card table projected through the card columns of `W_comb`. -/
def projCards : FVec F S64x128 .f32 := k0_pay6 (View.ld b.comb (Rect.unit (s := S128x896) ![0, 0] S128x896.size inb_S128x896_S128x896_0_0)) (View.ld b.cards (Rect.unit (s := S64x128) ![0, 0] S64x128.size inb_S64x128_S64x128_0_0))
/-- The hero-position table projected through its columns of `W_comb`. -/
def projHero : FVec F S16x128 .f32 := k0_pay7 (View.ld b.comb (Rect.unit (s := S128x896) ![0, 0] S128x896.size inb_S128x896_S128x896_0_0)) (View.ld b.hero (Rect.unit (s := S16x128) ![0, 0] S16x128.size inb_S16x128_S16x128_0_0))
/-- The acting-position table projected through its columns of `W_comb`. -/
def projActing : FVec F S16x128 .f32 := k0_pay8 (View.ld b.comb (Rect.unit (s := S128x896) ![0, 0] S128x896.size inb_S128x896_S128x896_0_0)) (View.ld b.acting (Rect.unit (s := S16x128) ![0, 0] S16x128.size inb_S16x128_S16x128_0_0))
/-- The number-of-players table projected through its columns of `W_comb`. -/
def projPlayers : FVec F S16x128 .f32 := k0_pay9 (View.ld b.comb (Rect.unit (s := S128x896) ![0, 0] S128x896.size inb_S128x896_S128x896_0_0)) (View.ld b.players (Rect.unit (s := S16x128) ![0, 0] S16x128.size inb_S16x128_S16x128_0_0))
/-- `W_scalar` transposed times its columns of `W_comb`. -/
def projScalar : FVec F S2x128 .f32 := k0_pay10 (View.ld b.comb (Rect.unit (s := S128x896) ![0, 0] S128x896.size inb_S128x896_S128x896_0_0)) (View.ld b.wScalar (Rect.unit (s := S128x2) ![0, 0] S128x2.size inb_S128x2_S128x2_0_0))
/-- `W_bet` transposed times its columns of `W_comb`. -/
def projBet : FVec F S9x128 .f32 := k0_pay11 (View.ld b.comb (Rect.unit (s := S128x896) ![0, 0] S128x896.size inb_S128x896_S128x896_0_0)) (View.ld b.wBet (Rect.unit (s := S128x9) ![0, 0] S128x9.size inb_S128x9_S128x9_0_0))
/-- `W_act` transposed times its columns of `W_comb`. -/
def projAct : FVec F S16x128 .f32 := k0_pay12 (View.ld b.comb (Rect.unit (s := S128x896) ![0, 0] S128x896.size inb_S128x896_S128x896_0_0)) (View.ld b.wAct (Rect.unit (s := S128x16) ![0, 0] S128x16.size inb_S128x16_S128x16_0_0))
/-- The four biases folded into one row. -/
def biasRow : FVec F S1x128 .f32 :=
  k0_pay13 (k0_pay3 (View.ld b.comb (Rect.unit (s := S128x896) ![0, 0] S128x896.size inb_S128x896_S128x896_0_0))) (k0_pay4 (View.ld b.comb (Rect.unit (s := S128x896) ![0, 0] S128x896.size inb_S128x896_S128x896_0_0))) (k0_pay5 (View.ld b.comb (Rect.unit (s := S128x896) ![0, 0] S128x896.size inb_S128x896_S128x896_0_0)))
    (View.ld b.biases (Rect.unit (s := S4x128) ![3, 0] S1x128.size inb_S4x128_S1x128_3_0)) (View.ld b.biases (Rect.unit (s := S4x128) ![0, 0] S1x128.size inb_S4x128_S1x128_0_0))
    (View.ld b.biases (Rect.unit (s := S4x128) ![1, 0] S1x128.size inb_S4x128_S1x128_1_0)) (View.ld b.biases (Rect.unit (s := S4x128) ![2, 0] S1x128.size inb_S4x128_S1x128_2_0))
/-- The integer features of the block's events. -/
def ids : IVec S2048x16 32 := k0_pay14 (View.ld b.idx (Rect.unit (s := S2048x16) ![0, 0] S2048x16.size inb_S2048x16_S2048x16_0_0))
/-- The float features of the block's events. -/
def floats : FVec F S2048x27 .f32 := k0_pay15 (View.ld b.flt (Rect.unit (s := S2048x27) ![0, 0] S2048x27.size inb_S2048x27_S2048x27_0_0))
/-- Hero and acting position: their projected rows, added. -/
def positions : FVec F S2048x128 .f32 := k0_pay16 (projHero b) (projActing b) (View.ld b.idx (Rect.unit (s := S2048x16) ![0, 0] S2048x16.size inb_S2048x16_S2048x16_0_0))
/-- The one-hot rows of the number of players. -/
def playersHot : FVec F S2048x16 .f32 := k0_pay17 (View.ld b.idx (Rect.unit (s := S2048x16) ![0, 0] S2048x16.size inb_S2048x16_S2048x16_0_0))
/-- The context of each event: everything but the card and its street. -/
def context : FVec F S2048x128 .f32 :=
  k0_pay18 (projPlayers b) (projScalar b) (projBet b) (projAct b) (biasRow b) (floats b) (positions b) (playersHot b)
    (constant S2048x128 .f32 0x00000000#32)
/-- The scale of the normalisation. -/
def scale : FVec F S1x128 .f32 := k0_pay19 (View.ld b.gamma (Rect.unit (s := S1x128) ![0, 0] S1x128.size inb_S1x128_S1x128_0_0))
/-- The shift of the normalisation. -/
def shift : FVec F S1x128 .f32 := k0_pay20 (View.ld b.beta (Rect.unit (s := S1x128) ![0, 0] S1x128.size inb_S1x128_S1x128_0_0))
/-- The first street row, of the private and flop cards. -/
def street0 : Vec F S1x128 .f32 := (View.ld b.street (Rect.unit (s := S2x128) ![0, 0] S1x128.size inb_S2x128_S1x128_0_0))
/-- The second street row, of the last two cards. -/
def street1 : Vec F S1x128 .f32 := (View.ld b.street (Rect.unit (s := S2x128) ![1, 0] S1x128.size inb_S2x128_S1x128_1_0))

/-- The normalised row of every event for the first card, and so on for the seven cards. -/
def row0 : FVec F S2048x128 .f32 :=
  k0_pay23 (shift b)
    (k0_pay21 (projCards b) (projPlayers b) (projScalar b) (projBet b) (projAct b) (biasRow b) (ids b) (floats b) (positions b)
      (playersHot b) (constant S2048x128 .f32 0x00000000#32) (street0 b))
    (k0_pay22 (View.ld b.gamma (Rect.unit (s := S1x128) ![0, 0] S1x128.size inb_S1x128_S1x128_0_0)))
@[inherit_doc row0] def row1 : FVec F S2048x128 .f32 :=
  k0_pay24 (projCards b) (ids b) (context b) (scale b) (shift b) (street0 b)
@[inherit_doc row0] def row2 : FVec F S2048x128 .f32 :=
  k0_pay26 (context b) (scale b) (shift b) (k0_pay25 (projCards b) (ids b)) (street0 b)
@[inherit_doc row0] def row3 : FVec F S2048x128 .f32 :=
  k0_pay29 (scale b) (shift b) (k0_pay27 (projCards b) (ids b) (context b) (street0 b))
    (k0_pay28 (projCards b) (ids b) (context b) (street0 b)) (Scalar.ofBits .f32 0x43000000#32)
@[inherit_doc row0] def row4 : FVec F S2048x128 .f32 :=
  k0_pay30 (projCards b) (ids b) (context b) (scale b) (shift b) (street0 b)
@[inherit_doc row0] def row5 : FVec F S2048x128 .f32 :=
  k0_pay31 (projCards b) (ids b) (context b) (scale b) (shift b) (iota .tc S2048x64 32 [1] iota_S2048x64_d1_w32) (street1 b)
@[inherit_doc row0] def row6 : FVec F S2048x128 .f32 :=
  k0_pay1 (scale b) (shift b) (k0_pay32 (projCards b) (ids b) (context b) (street1 b))
    (k0_pay33 (projCards b) (ids b) (context b) (street1 b)) (Scalar.ofBits .f32 0x43000000#32)

/-- The rows `c, c + 7, c + 14, …` of the output block. -/
def rowsOf (c : Fin 7) : Rect S14336x128 where
  off := ![c.val, 0]
  size := S2048x128.size
  stride := ![7, 1]
  inb a := by
    have := c.isLt
    match a with
    | ⟨0, _⟩ => exact Or.inr (show c.val + 7 * (2048 - 1) < 14336 by omega)
    | ⟨1, _⟩ => exact Or.inr (show 0 + 1 * (128 - 1) < 128 by omega)
  stride_pos := spos_7_1

/-- The row store of card `c` puts its own row `e` at row `c + 7 * e` of the block. -/
theorem rowsOf_emb_val (c : Fin 7) (x : S2048x128.Idx) :
    ((rowsOf c).emb x 0).val = c.val + 7 * (x 0).val ∧ ((rowsOf c).emb x 1).val = (x 1).val :=
  ⟨rfl, show 0 + 1 * (x 1).val = (x 1).val by omega⟩

/-- An index whose row is `c` modulo seven is among the rows of card `c`. -/
theorem mem_rowsOf (c : Fin 7) (y : S14336x128.Idx) (h : (y 0).val % 7 = c.val) : y ∈ (rowsOf c).set := by
  have h0 : (y 0).val < 14336 := (y 0).isLt
  have h1 : (y 1).val < 128 := (y 1).isLt
  rw [LoadRect.mem_set]
  intro a
  match a with
  | ⟨0, _⟩ => exact ⟨(y 0).val / 7, show (y 0).val / 7 < 2048 by omega, show (y 0).val = c.val + 7 * ((y 0).val / 7) by omega⟩
  | ⟨1, _⟩ => exact ⟨(y 1).val, show (y 1).val < 128 from h1, show (y 1).val = 0 + 1 * (y 1).val by omega⟩

/-- The seven strided pieces of the output block, last store first. -/
def pieces (p0 p1 p2 p3 p4 p5 p6 : Vec F S2048x128 .f32) : List (View.Piece (Elt F) S14336x128 .f32) :=
  [⟨rowsOf 6, p6⟩, ⟨rowsOf 5, p5⟩, ⟨rowsOf 4, p4⟩, ⟨rowsOf 3, p3⟩, ⟨rowsOf 2, p2⟩, ⟨rowsOf 1, p1⟩, ⟨rowsOf 0, p0⟩]

/-- Seven strided pieces, one for each remainder modulo seven, reach every element of the block. -/
theorem rows_cover (p0 p1 p2 p3 p4 p5 p6 : Vec F S2048x128 .f32) (y : S14336x128.Idx) :
    ∃ pc ∈ pieces p0 p1 p2 p3 p4 p5 p6, y ∈ pc.1.set := by
  have h : (y 0).val % 7 < 7 := Nat.mod_lt _ (by omega)
  unfold pieces
  generalize hr : (y 0).val % 7 = r at h
  match r, h with
  | 0, _ => exact ⟨⟨rowsOf 0, p0⟩, by simp, mem_rowsOf 0 y hr⟩
  | 1, _ => exact ⟨⟨rowsOf 1, p1⟩, by simp, mem_rowsOf 1 y hr⟩
  | 2, _ => exact ⟨⟨rowsOf 2, p2⟩, by simp, mem_rowsOf 2 y hr⟩
  | 3, _ => exact ⟨⟨rowsOf 3, p3⟩, by simp, mem_rowsOf 3 y hr⟩
  | 4, _ => exact ⟨⟨rowsOf 4, p4⟩, by simp, mem_rowsOf 4 y hr⟩
  | 5, _ => exact ⟨⟨rowsOf 5, p5⟩, by simp, mem_rowsOf 5 y hr⟩
  | 6, _ => exact ⟨⟨rowsOf 6, p6⟩, by simp, mem_rowsOf 6 y hr⟩

/-- The embeddings block one grid point leaves. -/
def outRows : Vec F S14336x128 .f32 :=
  View.canon (pieces (row0 b) (row1 b) (row2 b) (row3 b) (row4 b) (row5 b) (row6 b))

/-- The mask block one grid point leaves. -/
def outMask : Vec F S128x112 .f32 := View.canon [⟨(Rect.unit (s := S128x112) ![0, 0] S128x112.size inb_S128x112_S128x112_0_0), k0_pay2 (F := F)⟩]

/-- The one store of the mask block reaches every element of it. -/
theorem mask_cover (p : Vec F S128x112 .f32) (y : S128x112.Idx) :
    ∃ pc ∈ ([⟨(Rect.unit (s := S128x112) ![0, 0] S128x112.size inb_S128x112_S128x112_0_0), p⟩] : List (View.Piece (Elt F) S128x112 .f32)), y ∈ pc.1.set :=
  View.cover_of_tiled [⟨(Rect.unit (s := S128x112) ![0, 0] S128x112.size inb_S128x112_S128x112_0_0), p⟩] S128x112.size (by rfl) y

/-! ## The body's triple -/

set_option maxHeartbeats 4000000 in
/-- The kernel body, on whole staging buffers: from the inputs' buffers at any contents and the outputs' at anything it runs to
    a state with the inputs' buffers as they were, the embeddings buffer at `outRows` and the mask buffer at `outMask`. -/
theorem body_triple (c : Dev nD) (E : Set ℕ) (i : grid0.Coords) (arg1 : Memref sig .tc .vmem S2048x16 .i32) (harg1 : arg1.IsWhole) (arg2 : Memref sig .tc .vmem S2048x27 .f32) (harg2 : arg2.IsWhole) (arg3 : Memref sig .tc .vmem S64x128 .f32) (harg3 : arg3.IsWhole) (arg4 : Memref sig .tc .vmem S2x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S128x896 .f32) (harg8 : arg8.IsWhole) (arg9 : Memref sig .tc .vmem S128x2 .f32) (harg9 : arg9.IsWhole) (arg10 : Memref sig .tc .vmem S128x9 .f32) (harg10 : arg10.IsWhole) (arg11 : Memref sig .tc .vmem S128x16 .f32) (harg11 : arg11.IsWhole) (arg12 : Memref sig .tc .vmem S4x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S14336x128 .f32) (harg15 : arg15.IsWhole) (arg16 : Memref sig .tc .vmem S128x112 .f32) (harg16 : arg16.IsWhole)
    (x0 : Vec F S2048x16 .i32) (x1 : Vec F S2048x27 .f32) (x2 : Vec F S64x128 .f32) (x3 : Vec F S2x128 .f32) (x4 : Vec F S16x128 .f32) (x5 : Vec F S16x128 .f32) (x6 : Vec F S16x128 .f32) (x7 : Vec F S128x896 .f32) (x8 : Vec F S128x2 .f32) (x9 : Vec F S128x9 .f32) (x10 : Vec F S128x16 .f32) (x11 : Vec F S4x128 .f32) (x12 : Vec F S1x128 .f32) (x13 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (outRows ⟨x0, x1, x2, x3, x4, x5, x6, x7, x8, x9, x10, x11, x12, x13⟩) ∗ owns (c : Thread nD τ) arg16 fullShare (outMask (F := F))) -∗ K ⟨⟩))
      ⊢ wp frame (wpE (defs₀ (F := F)) Variants.none c none) E (cc0__embed_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__embed_kernel_eq_skeleton]; unfold cc0__embed_kernel_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (rows_cover _ _ _ _ _ _ _)).trans ?_
    rfl
  iexists _; isplitr
  swap; · iexact H15
  ipureintro
  refine (View.read_writes_eq_canon _ _ _ (mask_cover _)).trans ?_
  rfl

/-! ## The pipeline's proof data -/

variable (m : (ℓ : Loc nD τ sig) → Buf (Elt F) ℓ) (ρ : Dev nD → PrngReg)

/-- The input blocks of core `c` at grid point `t`. -/
def blocks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- The proof data on core `c`: the arrays as the region finds them; after the body at point `t` each input's buffer at its
    block and the outputs' at `outRows` and `outMask` of the blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outRows (blocks m c t)
    | ⟨15, _⟩ => outMask (F := F)
    | ⟨_ + 16, h⟩ => absurd h (Nat.not_lt.2 (Nat.le_add_left _ _))
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-! What the body leaves in each window's buffer. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = outRows (blocks m c t) := by dsimp only [dats]
theorem after_15 (c : Dev nD) (t : Fin cfg0.N) : (dats m 0 c).after 15 t = outMask (F := F) := by dsimp only [dats]

/-! Each input's buffer holds its block when the body starts. -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

/-- The body's triple at any point of the grid. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  unfold blocks
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body_triple c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body's table row at point `t` is the body at that point's buffers. -/
theorem defs_row (t : Fin cfg0.N) :
    defs₀ (F := F) .tc cfg0.body (cfg0.bodyArgs t (cfg0.slots t)) = bodyAt0 t := by
  unfold defs₀; rw [Defs.onTc_tc]

/-- The pipeline's body obligation. -/
theorem obligation (c : Dev nD) : BodyObligation (dats (F := F) m 0 c) (defs₀ (F := F)) Variants.none () Set.univ := fun t => by
  rw [bigSep_W0, bigSep_W0, defs_row]
  exact triple_restated (body_at m c t) rfl .rfl fun _ => .rfl

/-! ## The run and the frame -/

set_option backward.isDefEq.respectTransparency.types false in
set_option maxHeartbeats 1600000 in
/-- The launch: every run of the program ends with the pipeline's arrays at what the proof data says, every other buffer as the
    lines after the region leave it, and every semaphore counter at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- `run_quiescent` without the counters. -/
theorem run : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The frame: every run ends with every argument array unchanged and every semaphore counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  θ_run_and (frame_of m ρ (dats m) (A_eq m) (run m ρ)) ((θ_run defs _ _).mono (fun _ h => h.2) (run_quiescent m ρ))

end Cert.KernelIdeal.Hand

end
-- ==== Proof.ReferenceFrame.lean ====
/- The frame of `ReferenceIdeal`: its run leaves the arguments as they were, and it has no semaphore to count. -/
module

public import proofs.«01_k».proof.Proof.Gen.ReferenceIdeal
public import proofs.«01_k».proof.Proof.Gen.ReferenceIdeal.Run
public import Idealize.ShloMosaic.Lib.Claim
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The reference ends with its arguments unchanged and, having no semaphores, with every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  θ_run_mono (Value.run m ρ) fun r h => ⟨fun c => (h c).2.2, sem_eq_zero_of_no_sems (by decide) r.2⟩

end Cert.ReferenceIdeal.Hand

end
-- ==== Proof.Math.lean ====
/- The mathematics of the claim, over extended reals and free of any program: a one-hot row picks one summand (`sum_hot`),
   a sum over 896 columns is seven sums over 128 (`sum_896`), a linear layer followed by another folds into one
   (`fold_layer`), and the two spellings of the layer normalisation agree (`layerNormRef_eq`). -/
module

public import Idealize.ShloMosaic.Lib.Pointwise
public import Idealize.ShloMosaic.Lib.IdealHost

@[expose] public section

noncomputable section

namespace Cert.Events

open Idealize.ShloMosaic
open scoped BigOperators

/-! ## One-hot rows -/

/-- Entry `k` of the one-hot row of the word `a`, as the kernel computes it. -/
def hot (a : BitVec 32) (k : ℕ) : EReal :=
  FloatOps.sitofp (F := Ideal) FTy.f32 (BitVec.setWidth 32 (IntOp.cmpi CmpIPredicate.eq a (BitVec.ofNat 32 k)))

/-- A one-hot entry is one where the word is the position, and zero elsewhere. -/
theorem hot_eq (a : BitVec 32) (k : ℕ) (hk : k < 2 ^ 32) : hot a k = if a.toNat = k then 1 else 0 := by
  have h : (a = BitVec.ofNat 32 k) ↔ a.toNat = k := by
    rw [← BitVec.toNat_inj, BitVec.toNat_ofNat, Nat.mod_eq_of_lt hk]
  unfold hot IntOp.cmpi
  by_cases ha : a.toNat = k
  · rw [if_pos ha]
    have : a = BitVec.ofNat 32 k := h.2 ha
    simp [this]
    show (((BitVec.setWidth 32 (1#1)).toInt : ℝ) : EReal) = 1
    norm_num
  · rw [if_neg ha]
    have : ¬ a = BitVec.ofNat 32 k := fun e => ha (h.1 e)
    have hb : (a == BitVec.ofNat 32 k) = false := beq_eq_false_iff_ne.2 this
    rw [hb]
    show (((BitVec.setWidth 32 (0#1)).toInt : ℝ) : EReal) = 0
    norm_num

/-- A one-hot row times a column is the column's entry at the word. -/
theorem sum_hot {n : ℕ} (hn : n ≤ 2 ^ 32) (a : BitVec 32) (ha : a.toNat < n) (f : Fin n → EReal) :
    ∑ k : Fin n, hot a k.val * f k = f ⟨a.toNat, ha⟩ := by
  rw [Finset.sum_eq_single (⟨a.toNat, ha⟩ : Fin n)]
  · rw [hot_eq _ _ (by omega), if_pos rfl, one_mul]
  · intro k _ hk
    rw [hot_eq _ _ (by have := k.isLt; omega), if_neg (fun e => hk (Fin.ext e.symm)), zero_mul]
  · intro h; exact absurd (Finset.mem_univ _) h

/-! ## Sums of 896 terms -/

/-- A sum over the first `m + 128` positions ends with a block of 128. -/
theorem sum_block {m : ℕ} (f : Fin (m + 128) → EReal) :
    ∑ k, f k = (∑ k : Fin m, f ⟨k.val, by omega⟩) + ∑ j : Fin 128, f ⟨m + j.val, by omega⟩ := by
  rw [Fin.sum_univ_add]; rfl

/-- A sum over 896 columns, block by block of 128. -/
theorem sum_896 (f : Fin 896 → EReal) :
    ∑ k, f k = (∑ j : Fin 128, f ⟨j.val, by omega⟩) + (∑ j : Fin 128, f ⟨128 + j.val, by omega⟩)
      + (∑ j : Fin 128, f ⟨256 + j.val, by omega⟩) + (∑ j : Fin 128, f ⟨384 + j.val, by omega⟩)
      + (∑ j : Fin 128, f ⟨512 + j.val, by omega⟩) + (∑ j : Fin 128, f ⟨640 + j.val, by omega⟩)
      + ∑ j : Fin 128, f ⟨768 + j.val, by omega⟩ := by
  rw [sum_block (m := 768) f, sum_block (m := 640), sum_block (m := 512), sum_block (m := 384), sum_block (m := 256),
    sum_block (m := 128)]

/-! ## Finite entries -/

/-- An extended real is finite when it is a real number. -/
def Finite (x : EReal) : Prop := ∃ r : ℝ, x = (r : EReal)

/-- A number whose absolute value is below infinity is finite. -/
theorem finite_of_abs_lt {x : EReal} (h : max x (-x) < ⊤) : Finite x := by
  induction x with
  | bot => simp at h
  | top => simp at h
  | coe r => exact ⟨r, rfl⟩

/-- A real factor distributes over a real number plus anything. -/
theorem real_add_mul (a c : ℝ) (β : EReal) : ((a : EReal) + β) * (c : EReal) = (a : EReal) * c + β * c := by
  induction β with
  | coe r => norm_cast; ring
  | top =>
    rcases lt_trichotomy c 0 with h | h | h
    · rw [EReal.coe_add_top, EReal.top_mul_coe_of_neg h, ← EReal.coe_mul, EReal.add_bot]
    · subst h; simp
    · rw [EReal.coe_add_top, EReal.top_mul_coe_of_pos h, ← EReal.coe_mul, EReal.coe_add_top]
  | bot =>
    rcases lt_trichotomy c 0 with h | h | h
    · rw [EReal.add_bot, EReal.bot_mul_coe_of_neg h, ← EReal.coe_mul, EReal.coe_add_top]
    · subst h; simp
    · rw [EReal.add_bot, EReal.bot_mul_coe_of_pos h, ← EReal.coe_mul, EReal.add_bot]

/-- The sum of the real numbers, inside the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Two linear layers in a row are one: with finite features `s`, weights `A` and `w`, applying `A`, adding the bias and
    then applying `w` is applying the product of the weights and adding the bias applied to `w`. -/
theorem fold_layer {n : ℕ} (s : Fin n → EReal) (A : Fin 128 → Fin n → EReal) (β w : Fin 128 → EReal)
    (hs : ∀ k, Finite (s k)) (hA : ∀ j k, Finite (A j k)) (hw : ∀ j, Finite (w j)) :
    ∑ j, ((∑ k, s k * A j k) + β j) * w j = (∑ k, s k * ∑ j, A j k * w j) + ∑ j, β j * w j := by
  choose s' hs' using hs
  choose A' hA' using hA
  choose w' hw' using hw
  have e1 : ∀ j, ((∑ k, s k * A j k) + β j) * w j = ((∑ k, s' k * A' j k * w' j : ℝ) : EReal) + β j * w j := by
    intro j
    have : (∑ k, s k * A j k) = ((∑ k, s' k * A' j k : ℝ) : EReal) := by
      rw [coe_sum]
      exact Finset.sum_congr rfl fun k _ => by rw [hs', hA', EReal.coe_mul]
    rw [this, hw', real_add_mul, ← EReal.coe_mul, Finset.sum_mul]
  have e2 : ∀ k, s k * ∑ j, A j k * w j = ((∑ j, s' k * A' j k * w' j : ℝ) : EReal) := by
    intro k
    have : (∑ j, A j k * w j) = ((∑ j, A' j k * w' j : ℝ) : EReal) := by
      rw [coe_sum]
      exact Finset.sum_congr rfl fun j _ => by rw [hw', hA', EReal.coe_mul]
    rw [this, hs', ← EReal.coe_mul, Finset.mul_sum]
    exact congrArg _ (Finset.sum_congr rfl fun j _ => by ring)
  rw [Finset.sum_congr rfl fun j _ => e1 j, Finset.sum_add_distrib, Finset.sum_congr rfl fun k _ => e2 k, ← coe_sum, ← coe_sum,
    Finset.sum_comm]

/-! ## The layer normalisation -/

/-- The word of 128 reads as 128. -/
theorem ofBits_128 : Ideal.ofBits FTy.f32 0x43000000#32 = ((128 : ℝ) : EReal) := by
  simp [Ideal.ofBits, Ideal.ieee, -EReal.coe_mul]; norm_num

/-- The word the programs add to the variance reads as a positive number. -/
theorem ofBits_eps_pos : 0 < Ideal.ofBits FTy.f32 0x3727C5AC#32 := by
  simp [Ideal.ofBits, Ideal.ieee, -EReal.coe_mul]

/-- The mean of 128 numbers. -/
def mean (x : Fin 128 → EReal) : EReal := Ideal.div (∑ e, x e) (Ideal.ofBits FTy.f32 0x43000000#32)

/-- The variance of 128 numbers, plus the small constant. -/
def spread (x : Fin 128 → EReal) : EReal :=
  Ideal.div (∑ e, (x e - mean x) * (x e - mean x)) (Ideal.ofBits FTy.f32 0x43000000#32) + Ideal.ofBits FTy.f32 0x3727C5AC#32

/-- The layer normalisation as the kernel computes it. -/
def layerNorm (x g b : Fin 128 → EReal) (d : Fin 128) : EReal := (x d - mean x) * Ideal.rsqrt (spread x) * g d + b d

/-- The layer normalisation as the reference computes it. -/
def layerNormRef (x g b : Fin 128 → EReal) (d : Fin 128) : EReal := Ideal.div (g d * (x d - mean x)) (Ideal.sqrt (spread x)) + b d

/-- A square is not negative. -/
theorem mul_self_nonneg' (y : EReal) : 0 ≤ y * y := by
  induction y with
  | bot => simp
  | top => simp
  | coe r => rw [← EReal.coe_mul]; exact_mod_cast mul_self_nonneg r

/-- The variance plus the small constant is positive. -/
theorem spread_pos (x : Fin 128 → EReal) : 0 < spread x := by
  unfold spread
  have h : 0 ≤ Ideal.div (∑ e, (x e - mean x) * (x e - mean x)) (Ideal.ofBits FTy.f32 0x43000000#32) := by
    rw [ofBits_128]
    unfold Ideal.div
    rw [if_neg (by norm_num)]
    refine mul_nonneg (Finset.sum_nonneg fun e _ => mul_self_nonneg' _) ?_
    rw [← EReal.coe_inv]; exact_mod_cast (by norm_num : (0 : ℝ) ≤ (128 : ℝ)⁻¹)
  calc (0 : EReal) < Ideal.ofBits FTy.f32 0x3727C5AC#32 := ofBits_eps_pos
    _ = 0 + Ideal.ofBits FTy.f32 0x3727C5AC#32 := (zero_add _).symm
    _ ≤ _ := add_le_add h le_rfl

/-- Dividing by the square root of a positive number is multiplying by its inverse square root. -/
theorem div_sqrt (a y : EReal) (hy : 0 < y) : Ideal.div a (Ideal.sqrt y) = a * Ideal.rsqrt y := by
  induction y with
  | bot => simp at hy
  | top =>
    show Ideal.div a ⊤ = a * 0
    unfold Ideal.div
    rw [if_neg (by simp), EReal.inv_top]
  | coe r =>
    have hr : 0 < r := by exact_mod_cast hy
    have h1 : Ideal.sqrt (r : EReal) = ((Real.sqrt r : ℝ) : EReal) := by
      show (if r < 0 then (⊥ : EReal) else (Real.sqrt r : EReal)) = _
      rw [if_neg (not_lt.2 hr.le)]
    have h2 : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.2 hr.le), if_neg hr.ne']
    rw [h1, h2]
    unfold Ideal.div
    rw [if_neg (by exact_mod_cast (Real.sqrt_pos.2 hr).ne'), ← EReal.coe_inv]

/-- The two spellings of the layer normalisation agree. -/
theorem layerNormRef_eq (x g b : Fin 128 → EReal) (d : Fin 128) : layerNormRef x g b d = layerNorm x g b d := by
  unfold layerNormRef layerNorm
  rw [div_sqrt _ _ (spread_pos x), mul_comm (g d), mul_right_comm]

end Cert.Events
-- ==== Proof.Spec.lean ====
/- The problem's mathematics, one entry at a time: the seven rows of an event before and after the layer normalisation
   (`Args.pre`, `Args.out`), and what is assumed of the arguments (`Args.Ok`). Both programs are proved to compute `Args.out`. -/
module

public import proofs.«01_k».proof.Proof.Math

@[expose] public section

noncomputable section

namespace Cert.Events

open Idealize.ShloMosaic
open scoped BigOperators

/-- The arguments, entry by entry. -/
structure Args where
  cardId : Fin 16384 → Fin 7 → BitVec 32
  heroId : Fin 16384 → BitVec 32
  actingId : Fin 16384 → BitVec 32
  playersId : Fin 16384 → BitVec 32
  scalars : Fin 16384 → Fin 2 → EReal
  bets : Fin 16384 → Fin 9 → EReal
  actions : Fin 16384 → Fin 16 → EReal
  batch : Fin 16384 → BitVec 32
  event : Fin 16384 → BitVec 32
  cards : Fin 53 → Fin 128 → EReal
  streets : Fin 2 → Fin 128 → EReal
  heroes : Fin 9 → Fin 128 → EReal
  actings : Fin 9 → Fin 128 → EReal
  players : Fin 10 → Fin 128 → EReal
  wScalar : Fin 128 → Fin 2 → EReal
  bScalar : Fin 128 → EReal
  wBet : Fin 128 → Fin 9 → EReal
  bBet : Fin 128 → EReal
  wAct : Fin 128 → Fin 16 → EReal
  bAct : Fin 128 → EReal
  comb : Fin 128 → Fin 896 → EReal
  bComb : Fin 128 → EReal
  gamma : Fin 128 → EReal
  beta : Fin 128 → EReal

/-- The entry of a table an id names (zero if it names none). -/
def look {n : ℕ} (f : Fin n → EReal) (x : BitVec 32) : EReal := if h : x.toNat < n then f ⟨x.toNat, h⟩ else 0

/-- An id in range looks its entry up. -/
theorem look_of_lt {n : ℕ} (f : Fin n → EReal) (x : BitVec 32) (h : x.toNat < n) : look f x = f ⟨x.toNat, h⟩ := dif_pos h

/-- The street row of a card: the first for the first five cards, the second for the last two. -/
def streetOf (c : ℕ) : Fin 2 := if c < 5 then 0 else 1

/-- A linear layer: `x` times the transposed weights, plus the bias. -/
def dense {n : ℕ} (x : Fin n → EReal) (w : Fin 128 → Fin n → EReal) (b : Fin 128 → EReal) (j : Fin 128) : EReal :=
  (∑ k, x k * w j k) + b j

/-- What is assumed of the arguments: ids in range, event `t` sitting at batch `t / 16`, place `t % 16`, and finite numbers in
    the numeric features, their weights and the columns of `W_comb` that meet them. -/
structure Args.Ok (a : Args) : Prop where
  cardId : ∀ t k, (a.cardId t k).toNat < 53
  heroId : ∀ t, (a.heroId t).toNat < 9
  actingId : ∀ t, (a.actingId t).toNat < 9
  playersId : ∀ t, (a.playersId t).toNat < 10
  batch : ∀ t, (a.batch t).toNat = t.val / 16
  event : ∀ t, (a.event t).toNat = t.val % 16
  scalars : ∀ t k, Finite (a.scalars t k)
  bets : ∀ t k, Finite (a.bets t k)
  actions : ∀ t k, Finite (a.actions t k)
  wScalar : ∀ j k, Finite (a.wScalar j k)
  wBet : ∀ j k, Finite (a.wBet j k)
  wAct : ∀ j k, Finite (a.wAct j k)
  comb : ∀ d k, 512 ≤ k.val → Finite (a.comb d k)

variable (a : Args)

/-- Entry `d` of the row of event `t` and card `c` before the normalisation: the joined features times `W_comb` transposed,
    plus the bias and the street row. -/
def Args.pre (t : Fin 16384) (c : Fin 7) (d : Fin 128) : EReal :=
  (∑ j : Fin 128, look (fun i => a.cards i j) (a.cardId t c) * a.comb d ⟨j.val, by omega⟩)
    + (∑ j : Fin 128, look (fun i => a.heroes i j) (a.heroId t) * a.comb d ⟨128 + j.val, by omega⟩)
    + (∑ j : Fin 128, look (fun i => a.actings i j) (a.actingId t) * a.comb d ⟨256 + j.val, by omega⟩)
    + (∑ j : Fin 128, look (fun i => a.players i j) (a.playersId t) * a.comb d ⟨384 + j.val, by omega⟩)
    + (∑ j : Fin 128, dense (a.scalars t) a.wScalar a.bScalar j * a.comb d ⟨512 + j.val, by omega⟩)
    + (∑ j : Fin 128, dense (a.bets t) a.wBet a.bBet j * a.comb d ⟨640 + j.val, by omega⟩)
    + (∑ j : Fin 128, dense (a.actions t) a.wAct a.bAct j * a.comb d ⟨768 + j.val, by omega⟩)
    + a.bComb d + a.streets (streetOf c.val) d

/-- Entry `d` of the normalised row of event `t` and card `c`. -/
def Args.out (t : Fin 16384) (c : Fin 7) (d : Fin 128) : EReal := layerNorm (a.pre t c) a.gamma a.beta d

/-- The first result at batch `B`, token `e`, column `d`: event `16 B + e / 7`, card `e % 7`. -/
def Args.tokens (B : Fin 1024) (e : Fin 112) (d : Fin 128) : EReal :=
  a.out ⟨16 * B.val + e.val / 7, by omega⟩ ⟨e.val % 7, by omega⟩ d

/-- The same row with the layers of the numeric features folded into `W_comb`. -/
theorem Args.pre_folded (h : a.Ok) (t : Fin 16384) (c : Fin 7) (d : Fin 128) :
    a.pre t c d =
      (∑ j : Fin 128, look (fun i => a.cards i j) (a.cardId t c) * a.comb d ⟨j.val, by omega⟩)
      + ((∑ j : Fin 128, look (fun i => a.heroes i j) (a.heroId t) * a.comb d ⟨128 + j.val, by omega⟩)
        + (∑ j : Fin 128, look (fun i => a.actings i j) (a.actingId t) * a.comb d ⟨256 + j.val, by omega⟩)
        + (∑ j : Fin 128, look (fun i => a.players i j) (a.playersId t) * a.comb d ⟨384 + j.val, by omega⟩)
        + (∑ k : Fin 2, a.scalars t k * ∑ j : Fin 128, a.wScalar j k * a.comb d ⟨512 + j.val, by omega⟩)
        + (∑ k : Fin 9, a.bets t k * ∑ j : Fin 128, a.wBet j k * a.comb d ⟨640 + j.val, by omega⟩)
        + (∑ k : Fin 16, a.actions t k * ∑ j : Fin 128, a.wAct j k * a.comb d ⟨768 + j.val, by omega⟩)
        + (a.bComb d
          + (∑ j : Fin 128, a.bScalar j * a.comb d ⟨512 + j.val, by omega⟩)
          + (∑ j : Fin 128, a.bBet j * a.comb d ⟨640 + j.val, by omega⟩)
          + ∑ j : Fin 128, a.bAct j * a.comb d ⟨768 + j.val, by omega⟩))
      + a.streets (streetOf c.val) d := by
  unfold Args.pre dense
  rw [fold_layer (a.scalars t) a.wScalar a.bScalar (fun j => a.comb d ⟨512 + j.val, by omega⟩) (h.scalars t) h.wScalar
      (fun j => h.comb d _ (by show 512 ≤ 512 + j.val; omega)),
    fold_layer (a.bets t) a.wBet a.bBet (fun j => a.comb d ⟨640 + j.val, by omega⟩) (h.bets t) h.wBet
      (fun j => h.comb d _ (by show 512 ≤ 640 + j.val; omega)),
    fold_layer (a.actions t) a.wAct a.bAct (fun j => a.comb d ⟨768 + j.val, by omega⟩) (h.actions t) h.wAct
      (fun j => h.comb d _ (by show 512 ≤ 768 + j.val; omega))]
  abel

end Cert.Events
-- ==== Proof.KernelRows.lean ====
/- What one grid point's body computes, read at one event `e` and one output column `d`: the projected tables, the folded
   linear layers, the context, and the seven normalised rows (`row_apply`), then the whole output block (`outRows_apply`,
   `outMask_apply`). -/
module

public import proofs.«01_k».proof.Proof.KernelIdealFrame
public import proofs.«01_k».proof.Proof.Spec

@[expose] public section

set_option maxRecDepth 16384

noncomputable section

namespace Cert.KernelIdeal.Hand

open Cert.KernelIdeal Cert.KernelIdeal.Gen Cert.Events
open Idealize.ShloMosaic Idealize.ShloMosaic.TcCoe
open scoped BigOperators

variable (b : Blocks Ideal)

/-! ## The projected tables and the folded layers -/

/-- Entry of the projected card table. -/
theorem projCards_apply (k : Fin 64) (d : Fin 128) :
    projCards b (ix2 k d) = ∑ j : Fin 128, b.cards (ix2 k j) * b.comb (ix2 d ⟨j.val, by omega⟩) := by
  pointwise [projCards, k0_pay6]

/-- Entry of the projected hero-position table. -/
theorem projHero_apply (k : Fin 16) (d : Fin 128) :
    projHero b (ix2 k d) = ∑ j : Fin 128, b.hero (ix2 k j) * b.comb (ix2 d ⟨128 + j.val, by omega⟩) := by
  pointwise [projHero, k0_pay7]

/-- Entry of the projected acting-position table. -/
theorem projActing_apply (k : Fin 16) (d : Fin 128) :
    projActing b (ix2 k d) = ∑ j : Fin 128, b.acting (ix2 k j) * b.comb (ix2 d ⟨256 + j.val, by omega⟩) := by
  pointwise [projActing, k0_pay8]

/-- Entry of the projected number-of-players table. -/
theorem projPlayers_apply (k : Fin 16) (d : Fin 128) :
    projPlayers b (ix2 k d) = ∑ j : Fin 128, b.players (ix2 k j) * b.comb (ix2 d ⟨384 + j.val, by omega⟩) := by
  pointwise [projPlayers, k0_pay9]

/-- Entry of the folded weights of the scalars. -/
theorem projScalar_apply (k : Fin 2) (d : Fin 128) :
    projScalar b (ix2 k d) = ∑ j : Fin 128, b.wScalar (ix2 j k) * b.comb (ix2 d ⟨512 + j.val, by omega⟩) := by
  pointwise [projScalar, k0_pay10, k0_pay3]

/-- Entry of the folded weights of the bets. -/
theorem projBet_apply (k : Fin 9) (d : Fin 128) :
    projBet b (ix2 k d) = ∑ j : Fin 128, b.wBet (ix2 j k) * b.comb (ix2 d ⟨640 + j.val, by omega⟩) := by
  pointwise [projBet, k0_pay11, k0_pay4]

/-- Entry of the folded weights of the actions. -/
theorem projAct_apply (k : Fin 16) (d : Fin 128) :
    projAct b (ix2 k d) = ∑ j : Fin 128, b.wAct (ix2 j k) * b.comb (ix2 d ⟨768 + j.val, by omega⟩) := by
  pointwise [projAct, k0_pay12, k0_pay5]

/-- Entry of the folded bias. -/
theorem biasRow_apply (d : Fin 128) :
    biasRow b (ix2 0 d) = b.biases (ix2 3 d)
      + (∑ j : Fin 128, b.biases (ix2 0 j) * b.comb (ix2 d ⟨512 + j.val, by omega⟩))
      + (∑ j : Fin 128, b.biases (ix2 1 j) * b.comb (ix2 d ⟨640 + j.val, by omega⟩))
      + ∑ j : Fin 128, b.biases (ix2 2 j) * b.comb (ix2 d ⟨768 + j.val, by omega⟩) := by
  pointwise [biasRow, k0_pay13, k0_pay3, k0_pay4, k0_pay5]

/-! ## The rows -/

/-- Hero and acting position of an event. -/
theorem positions_apply (e : Fin 2048) (d : Fin 128) :
    positions b (ix2 e d) = (∑ k : Fin 16, hot (b.idx (ix2 e 7)) k.val * projHero b (ix2 k d))
      + ∑ k : Fin 16, hot (b.idx (ix2 e 8)) k.val * projActing b (ix2 k d) := by
  pointwise [positions, k0_pay16, k0_pay14, hot]

/-- The context of an event. -/
theorem context_apply (e : Fin 2048) (d : Fin 128) :
    context b (ix2 e d) = (∑ k : Fin 16, hot (b.idx (ix2 e 7)) k.val * projHero b (ix2 k d))
      + (∑ k : Fin 16, hot (b.idx (ix2 e 8)) k.val * projActing b (ix2 k d))
      + (∑ k : Fin 16, hot (b.idx (ix2 e 9)) k.val * projPlayers b (ix2 k d))
      + (∑ k : Fin 2, b.flt (ix2 e ⟨k.val, by omega⟩) * projScalar b (ix2 k d))
      + (∑ k : Fin 9, b.flt (ix2 e ⟨2 + k.val, by omega⟩) * projBet b (ix2 k d))
      + (∑ k : Fin 16, b.flt (ix2 e ⟨11 + k.val, by omega⟩) * projAct b (ix2 k d))
      + biasRow b (ix2 0 d) := by
  rw [← positions_apply]
  pointwise [context, k0_pay18, floats, k0_pay15, playersHot, k0_pay17, k0_pay14, hot]

/-- The row of an event before the normalisation, for the card in column `c` and the street row `s`. -/
def preRow (c : Fin 16) (s : Fin 2) (e : Fin 2048) (d : Fin 128) : EReal :=
  (∑ k : Fin 64, hot (b.idx (ix2 e c)) k.val * projCards b (ix2 k d)) + context b (ix2 e d) + b.street (ix2 s d)

/-- The normalised row of an event. -/
def normRow (c : Fin 16) (s : Fin 2) (e : Fin 2048) (d : Fin 128) : EReal :=
  layerNorm (preRow b c s e) (fun d => b.gamma (ix2 0 d)) (fun d => b.beta (ix2 0 d)) d

/-- The row stored for each of the seven cards is the normalised row; the last two take the second street row. -/
theorem row0_apply (e : Fin 2048) (d : Fin 128) : row0 b (ix2 e d) = normRow b 0 0 e d := by
  have h : row0 b = k0_pay23 (shift b) (k0_pay21 (projCards b) (projPlayers b) (projScalar b) (projBet b) (projAct b) (biasRow b) (ids b) (floats b) (positions b)
      (playersHot b) (constant S2048x128 .f32 0x00000000#32) (street0 b)) (k0_pay22 (View.ld b.gamma (Rect.unit (s := S1x128) ![0, 0] S1x128.size inb_S1x128_S1x128_0_0))) := rfl
  rw [h]
  unfold k0_pay21
  rw [show k0_pay18 (projPlayers b) (projScalar b) (projBet b) (projAct b) (biasRow b) (floats b) (positions b)
      (playersHot b) (constant S2048x128 .f32 0x00000000#32) = context b from rfl]
  pointwise [k0_pay23, k0_pay22, k0_pay19, k0_pay20, shift, ids, k0_pay14, street0, normRow, layerNorm, mean, spread, preRow, hot]
@[inherit_doc row0_apply] theorem row1_apply (e : Fin 2048) (d : Fin 128) : row1 b (ix2 e d) = normRow b 1 0 e d := by
  pointwise [row1, k0_pay24, ids, k0_pay14, scale, shift, k0_pay19, k0_pay20, street0, normRow, layerNorm, mean, spread, preRow, hot]
@[inherit_doc row0_apply] theorem row2_apply (e : Fin 2048) (d : Fin 128) : row2 b (ix2 e d) = normRow b 2 0 e d := by
  pointwise [row2, k0_pay25, k0_pay26, ids, k0_pay14, scale, shift, k0_pay19, k0_pay20, street0, normRow, layerNorm, mean, spread, preRow, hot]
@[inherit_doc row0_apply] theorem row3_apply (e : Fin 2048) (d : Fin 128) : row3 b (ix2 e d) = normRow b 3 0 e d := by
  pointwise [row3, k0_pay27, k0_pay28, k0_pay29, ids, k0_pay14, scale, shift, k0_pay19, k0_pay20, street0, normRow, layerNorm, mean, spread, preRow, hot]
@[inherit_doc row0_apply] theorem row4_apply (e : Fin 2048) (d : Fin 128) : row4 b (ix2 e d) = normRow b 4 0 e d := by
  pointwise [row4, k0_pay30, ids, k0_pay14, scale, shift, k0_pay19, k0_pay20, street0, normRow, layerNorm, mean, spread, preRow, hot]
@[inherit_doc row0_apply] theorem row5_apply (e : Fin 2048) (d : Fin 128) : row5 b (ix2 e d) = normRow b 5 1 e d := by
  pointwise [row5, k0_pay31, ids, k0_pay14, scale, shift, k0_pay19, k0_pay20, street1, normRow, layerNorm, mean, spread, preRow, hot]
@[inherit_doc row0_apply] theorem row6_apply (e : Fin 2048) (d : Fin 128) : row6 b (ix2 e d) = normRow b 6 1 e d := by
  pointwise [row6, k0_pay1, k0_pay32, k0_pay33, ids, k0_pay14, scale, shift, k0_pay19, k0_pay20, street1, normRow, layerNorm, mean, spread, preRow, hot]

/-! ## The two output blocks -/

/-- What the output block holds at row `r`: the normalised row of event `r / 7` for card `r % 7`. -/
def blockOut : Vec Ideal S14336x128 .f32 := fun y =>
  normRow b ⟨(y 0).val % 7, by omega⟩ (streetOf ((y 0).val % 7))
    ⟨(y 0).val / 7, by have : (y 0).val < 14336 := (y 0).isLt; omega⟩ (y 1)

/-- One strided piece agrees with `blockOut`. -/
theorem piece_apply (c : Fin 7) (p : Vec Ideal S2048x128 .f32)
    (h : ∀ e d, p (ix2 e d) = normRow b ⟨c.val, by omega⟩ (streetOf c.val) e d) (x : S2048x128.Idx) :
    p x = blockOut b ((rowsOf c).emb x) := by
  obtain ⟨e, d, rfl⟩ : ∃ (e : Fin 2048) (d : Fin 128), x = ix2 e d := ⟨x 0, x 1, eq_ix2 x⟩
  obtain ⟨h0, h1⟩ := rowsOf_emb_val c (ix2 e d)
  rw [h]
  have hc := c.isLt
  have e0 : ((rowsOf c).emb (ix2 e d) 0).val % 7 = c.val := by rw [h0]; show (c.val + 7 * e.val) % 7 = c.val; omega
  have e1 : ((rowsOf c).emb (ix2 e d) 0).val / 7 = e.val := by rw [h0]; show (c.val + 7 * e.val) / 7 = e.val; omega
  unfold blockOut
  congr 1
  · exact Fin.ext e0.symm
  · rw [e0]
  · exact Fin.ext e1.symm
  · exact Fin.ext h1.symm

/-- The embeddings block of one grid point, read at an index. -/
theorem outRows_apply (y : S14336x128.Idx) : outRows b y = blockOut b y := by
  unfold outRows
  refine View.canon_apply_of_pieces (blockOut b) _ ?_ y (rows_cover _ _ _ _ _ _ _ y)
  intro p hp x
  simp only [pieces, List.mem_cons, List.mem_nil_iff, or_false] at hp
  rcases hp with rfl | rfl | rfl | rfl | rfl | rfl | rfl
  · exact piece_apply b 6 _ (row6_apply b) x
  · exact piece_apply b 5 _ (row5_apply b) x
  · exact piece_apply b 4 _ (row4_apply b) x
  · exact piece_apply b 3 _ (row3_apply b) x
  · exact piece_apply b 2 _ (row2_apply b) x
  · exact piece_apply b 1 _ (row1_apply b) x
  · exact piece_apply b 0 _ (row0_apply b) x

/-- The mask block of one grid point is one everywhere. -/
theorem outMask_apply (y : S128x112.Idx) : outMask (F := Ideal) y = 1 := by
  unfold outMask
  rw [View.canon_unit_zero (funext fun a => by fin_cases a <;> rfl)]
  pointwise [k0_pay2]

end Cert.KernelIdeal.Hand
-- ==== Proof.KernelArrays.lean ====
/- The arrays the host prepares for the kernel, read entry by entry as entries of the arguments. -/
module

public import proofs.«01_k».proof.Proof.KernelRows
public import Idealize.ShloMosaic.Lib.Claim
public import Idealize.ShloMosaic.Lib.Pipeline.ValueKit.Point
public import Idealize.ShloMosaic.Lib.Pipeline.ValueKit.Geometry

@[expose] public section

set_option maxRecDepth 16384

noncomputable section

namespace Cert.KernelIdeal.Hand

open Cert.KernelIdeal Cert.KernelIdeal.Gen Cert.Events
open Idealize.ShloMosaic Idealize.ShloMosaic.TcCoe

variable (m : (ℓ : Loc nD τ sig) → Buf (Elt Ideal) ℓ) (c : Dev nD)

/-- The arguments of the launch on core `c`, entry by entry. -/
def argsOf : Args where
  cardId t k := (m ((c : Thread nD τ).loc main_arg0) : Vec Ideal S16384x7 .i32) (ix2 t k)
  heroId t := (m ((c : Thread nD τ).loc main_arg1) : Vec Ideal S16384 .i32) (ix1 t)
  actingId t := (m ((c : Thread nD τ).loc main_arg2) : Vec Ideal S16384 .i32) (ix1 t)
  playersId t := (m ((c : Thread nD τ).loc main_arg3) : Vec Ideal S16384 .i32) (ix1 t)
  scalars t k := (m ((c : Thread nD τ).loc main_arg4) : Vec Ideal S16384x2 .f32) (ix2 t k)
  bets t k := (m ((c : Thread nD τ).loc main_arg5) : Vec Ideal S16384x9 .f32) (ix2 t k)
  actions t k := (m ((c : Thread nD τ).loc main_arg6) : Vec Ideal S16384x16 .f32) (ix2 t k)
  batch t := (m ((c : Thread nD τ).loc main_arg7) : Vec Ideal S16384 .i32) (ix1 t)
  event t := (m ((c : Thread nD τ).loc main_arg8) : Vec Ideal S16384 .i32) (ix1 t)
  cards i j := (m ((c : Thread nD τ).loc main_arg9) : Vec Ideal S53x128 .f32) (ix2 i j)
  streets i j := (m ((c : Thread nD τ).loc main_arg10) : Vec Ideal S2x128 .f32) (ix2 i j)
  heroes i j := (m ((c : Thread nD τ).loc main_arg11) : Vec Ideal S9x128 .f32) (ix2 i j)
  actings i j := (m ((c : Thread nD τ).loc main_arg12) : Vec Ideal S9x128 .f32) (ix2 i j)
  players i j := (m ((c : Thread nD τ).loc main_arg13) : Vec Ideal S10x128 .f32) (ix2 i j)
  wScalar i j := (m ((c : Thread nD τ).loc main_arg14) : Vec Ideal S128x2 .f32) (ix2 i j)
  bScalar j := (m ((c : Thread nD τ).loc main_arg15) : Vec Ideal S128 .f32) (ix1 j)
  wBet i j := (m ((c : Thread nD τ).loc main_arg16) : Vec Ideal S128x9 .f32) (ix2 i j)
  bBet j := (m ((c : Thread nD τ).loc main_arg17) : Vec Ideal S128 .f32) (ix1 j)
  wAct i j := (m ((c : Thread nD τ).loc main_arg18) : Vec Ideal S128x16 .f32) (ix2 i j)
  bAct j := (m ((c : Thread nD τ).loc main_arg19) : Vec Ideal S128 .f32) (ix1 j)
  comb i j := (m ((c : Thread nD τ).loc main_arg20) : Vec Ideal S128x896 .f32) (ix2 i j)
  bComb j := (m ((c : Thread nD τ).loc main_arg21) : Vec Ideal S128 .f32) (ix1 j)
  gamma j := (m ((c : Thread nD τ).loc main_arg22) : Vec Ideal S128 .f32) (ix1 j)
  beta j := (m ((c : Thread nD τ).loc main_arg23) : Vec Ideal S128 .f32) (ix1 j)

/-! ## The arrays the host prepares -/

/-- The host's integer columns: seven card ids, hero, acting, player count, six zeros. -/
theorem V_main_v4 : V m c main_v4 = concatenate S16384x16 1
    [⟨S16384x7, V m c main_arg0⟩,
      ⟨S16384x1, broadcastInDim S16384x1 ![0] bcast_S16384_S16384x1_0 (V m c main_arg1)⟩,
      ⟨S16384x1, broadcastInDim S16384x1 ![0] bcast_S16384_S16384x1_0 (V m c main_arg2)⟩,
      ⟨S16384x1, broadcastInDim S16384x1 ![0] bcast_S16384_S16384x1_0 (V m c main_arg3)⟩,
      ⟨S16384x6, broadcastInDim S16384x6 ![] bcast_S_S16384x6 (constantI S_ 32 0#32)⟩]
    concatenates_S16384x7_S16384x1_S16384x1_S16384x1_S16384x6_S16384x16_d1 := by
  rw [V_main_arg0, V_main_arg1, V_main_arg2, V_main_arg3]
  rfl

/-- The host's float columns: scalars, bets, actions. -/
theorem V_main_v5 : V m c main_v5 = concatenate S16384x27 1
    [⟨S16384x2, V m c main_arg4⟩, ⟨S16384x9, V m c main_arg5⟩, ⟨S16384x16, V m c main_arg6⟩]
    concatenates_S16384x2_S16384x9_S16384x16_S16384x27_d1 := by
  rw [V_main_arg4, V_main_arg5, V_main_arg6]
  rfl

/-- The card table with eleven rows of padding. -/
theorem V_main_v6 : V m c main_v6 = pad S64x128 ![0, 0] ![11, 0] ![0, 0] (V m c main_arg9)
    (sitofp (F := Ideal) .f32 (constantI S_ 32 0#32)) pads_S53x128_S64x128_0110_000 h_S_ := by
  rw [V_main_arg9]
  rfl

/-- The hero-position table with seven rows of padding. -/
theorem V_main_v7 : V m c main_v7 = pad S16x128 ![0, 0] ![7, 0] ![0, 0] (V m c main_arg11)
    (sitofp (F := Ideal) .f32 (constantI S_ 32 0#32)) pads_S9x128_S16x128_070_000 h_S_ := by
  rw [V_main_arg11]
  rfl

/-- The acting-position table with seven rows of padding. -/
theorem V_main_v8 : V m c main_v8 = pad S16x128 ![0, 0] ![7, 0] ![0, 0] (V m c main_arg12)
    (sitofp (F := Ideal) .f32 (constantI S_ 32 0#32)) pads_S9x128_S16x128_070_000 h_S_ := by
  rw [V_main_arg12]
  rfl

/-- The number-of-players table with six rows of padding. -/
theorem V_main_v9 : V m c main_v9 = pad S16x128 ![0, 0] ![6, 0] ![0, 0] (V m c main_arg13)
    (sitofp (F := Ideal) .f32 (constantI S_ 32 0#32)) pads_S10x128_S16x128_060_000 h_S_ := by
  rw [V_main_arg13]
  rfl

/-- The four biases, one row each. -/
theorem V_main_v14 : V m c main_v14 = concatenate S4x128 0
    [⟨S1x128, broadcastInDim S1x128 ![1] bcast_S128_S1x128_1 (V m c main_arg15)⟩,
      ⟨S1x128, broadcastInDim S1x128 ![1] bcast_S128_S1x128_1 (V m c main_arg17)⟩,
      ⟨S1x128, broadcastInDim S1x128 ![1] bcast_S128_S1x128_1 (V m c main_arg19)⟩,
      ⟨S1x128, broadcastInDim S1x128 ![1] bcast_S128_S1x128_1 (V m c main_arg21)⟩]
    concatenates_S1x128_S1x128_S1x128_S1x128_S4x128_d0 := by
  rw [V_main_arg15, V_main_arg17, V_main_arg19, V_main_arg21]
  rfl

/-- The scale as one row. -/
theorem V_main_v15 : V m c main_v15 = broadcastInDim S1x128 ![1] bcast_S128_S1x128_1 (V m c main_arg22) := by
  rw [V_main_arg22]
  rfl

/-- The shift as one row. -/
theorem V_main_v16 : V m c main_v16 = broadcastInDim S1x128 ![1] bcast_S128_S1x128_1 (V m c main_arg23) := by
  rw [V_main_arg23]
  rfl

/-! ## The input arrays as the launch reads them -/

/-- An input array of the kernel. -/
def arrIdx : Vec Ideal S16384x16 .i32 := V m c main_v4
@[inherit_doc arrIdx] def arrFlt : Vec Ideal S16384x27 .f32 := V m c main_v5
@[inherit_doc arrIdx] def arrCards : Vec Ideal S64x128 .f32 := V m c main_v6
@[inherit_doc arrIdx] def arrHero : Vec Ideal S16x128 .f32 := V m c main_v7
@[inherit_doc arrIdx] def arrActing : Vec Ideal S16x128 .f32 := V m c main_v8
@[inherit_doc arrIdx] def arrPlayers : Vec Ideal S16x128 .f32 := V m c main_v9
@[inherit_doc arrIdx] def arrBiases : Vec Ideal S4x128 .f32 := V m c main_v14
@[inherit_doc arrIdx] def arrGamma : Vec Ideal S1x128 .f32 := V m c main_v15
@[inherit_doc arrIdx] def arrBeta : Vec Ideal S1x128 .f32 := V m c main_v16
@[inherit_doc arrIdx] def arrComb : Vec Ideal S128x896 .f32 := V m c main_arg20
@[inherit_doc arrIdx] def arrScalar : Vec Ideal S128x2 .f32 := V m c main_arg14
@[inherit_doc arrIdx] def arrBet : Vec Ideal S128x9 .f32 := V m c main_arg16
@[inherit_doc arrIdx] def arrAct : Vec Ideal S128x16 .f32 := V m c main_arg18
@[inherit_doc arrIdx] def arrStreet : Vec Ideal S2x128 .f32 := V m c main_arg10

/-! ## The prepared arrays, entry by entry -/

/-- The first seven integer columns are the card ids. -/
theorem ids_card (t : Fin 16384) (k : Fin 7) : arrIdx m c (ix2 t ⟨k.val, by omega⟩) = (argsOf m c).cardId t k := by
  rw [arrIdx, V_main_v4, V_main_arg0]
  pointwise [argsOf]

/-- Integer column 7 is the hero position. -/
theorem ids_hero (t : Fin 16384) : arrIdx m c (ix2 t 7) = (argsOf m c).heroId t := by
  rw [arrIdx, V_main_v4, V_main_arg1]
  pointwise [argsOf]

/-- Integer column 8 is the acting position. -/
theorem ids_acting (t : Fin 16384) : arrIdx m c (ix2 t 8) = (argsOf m c).actingId t := by
  rw [arrIdx, V_main_v4, V_main_arg2]
  pointwise [argsOf]

/-- Integer column 9 is the number of players. -/
theorem ids_players (t : Fin 16384) : arrIdx m c (ix2 t 9) = (argsOf m c).playersId t := by
  rw [arrIdx, V_main_v4, V_main_arg3]
  pointwise [argsOf]

/-- The float columns that hold the scalars. -/
theorem floats_scalars (t : Fin 16384) (k : Fin 2) : arrFlt m c (ix2 t ⟨k.val, by omega⟩) = (argsOf m c).scalars t k := by
  rw [arrFlt, V_main_v5, V_main_arg4]
  pointwise [argsOf]

/-- The float columns that hold the bets. -/
theorem floats_bets (t : Fin 16384) (k : Fin 9) : arrFlt m c (ix2 t ⟨2 + k.val, by omega⟩) = (argsOf m c).bets t k := by
  rw [arrFlt, V_main_v5, V_main_arg5]
  pointwise [argsOf]

/-- The float columns that hold the actions. -/
theorem floats_actions (t : Fin 16384) (k : Fin 16) : arrFlt m c (ix2 t ⟨11 + k.val, by omega⟩) = (argsOf m c).actions t k := by
  rw [arrFlt, V_main_v5, V_main_arg6]
  pointwise [argsOf]
  rw [dif_neg (by omega), dif_neg (by omega)]
  exact congrArg (fun q => (m ((c : Thread nD τ).loc main_arg6) : Vec Ideal S16384x16 .f32) (ix2 t q))
    (Fin.ext (by show 11 + k.val - 2 - 9 = k.val; omega))

/-- The padded table's first 53 rows are the table. -/
theorem table_cards (k : Fin 53) (j : Fin 128) : arrCards m c (ix2 ⟨k.val, by omega⟩ j) = (argsOf m c).cards k j := by
  rw [arrCards, V_main_v6, V_main_arg9]
  pointwise [argsOf]
  exact dif_pos fun a => by
    fin_cases a
    · exact ⟨Nat.zero_le _, Nat.mod_one _, by simp [ix2]⟩
    · exact ⟨Nat.zero_le _, Nat.mod_one _, by simp [ix2]⟩

/-- The padded table's first 9 rows are the table. -/
theorem table_heroes (k : Fin 9) (j : Fin 128) : arrHero m c (ix2 ⟨k.val, by omega⟩ j) = (argsOf m c).heroes k j := by
  rw [arrHero, V_main_v7, V_main_arg11]
  pointwise [argsOf]
  exact dif_pos fun a => by
    fin_cases a
    · exact ⟨Nat.zero_le _, Nat.mod_one _, by simp [ix2]⟩
    · exact ⟨Nat.zero_le _, Nat.mod_one _, by simp [ix2]⟩

/-- The padded table's first 9 rows are the table. -/
theorem table_actings (k : Fin 9) (j : Fin 128) : arrActing m c (ix2 ⟨k.val, by omega⟩ j) = (argsOf m c).actings k j := by
  rw [arrActing, V_main_v8, V_main_arg12]
  pointwise [argsOf]
  exact dif_pos fun a => by
    fin_cases a
    · exact ⟨Nat.zero_le _, Nat.mod_one _, by simp [ix2]⟩
    · exact ⟨Nat.zero_le _, Nat.mod_one _, by simp [ix2]⟩

/-- The padded table's first 10 rows are the table. -/
theorem table_players (k : Fin 10) (j : Fin 128) : arrPlayers m c (ix2 ⟨k.val, by omega⟩ j) = (argsOf m c).players k j := by
  rw [arrPlayers, V_main_v9, V_main_arg13]
  pointwise [argsOf]
  exact dif_pos fun a => by
    fin_cases a
    · exact ⟨Nat.zero_le _, Nat.mod_one _, by simp [ix2]⟩
    · exact ⟨Nat.zero_le _, Nat.mod_one _, by simp [ix2]⟩

/-- Row 0 of the biases. -/
theorem bias_bScalar (j : Fin 128) : arrBiases m c (ix2 0 j) = (argsOf m c).bScalar j := by
  rw [arrBiases, V_main_v14, V_main_arg15]
  pointwise [argsOf]

/-- Row 1 of the biases. -/
theorem bias_bBet (j : Fin 128) : arrBiases m c (ix2 1 j) = (argsOf m c).bBet j := by
  rw [arrBiases, V_main_v14, V_main_arg17]
  pointwise [argsOf]

/-- Row 2 of the biases. -/
theorem bias_bAct (j : Fin 128) : arrBiases m c (ix2 2 j) = (argsOf m c).bAct j := by
  rw [arrBiases, V_main_v14, V_main_arg19]
  pointwise [argsOf]

/-- Row 3 of the biases. -/
theorem bias_bComb (j : Fin 128) : arrBiases m c (ix2 3 j) = (argsOf m c).bComb j := by
  rw [arrBiases, V_main_v14, V_main_arg21]
  pointwise [argsOf]

/-- The scale row. -/
theorem scale_row (j : Fin 128) : arrGamma m c (ix2 0 j) = (argsOf m c).gamma j := by
  rw [arrGamma, V_main_v15, V_main_arg22]
  pointwise [argsOf]

/-- The shift row. -/
theorem shift_row (j : Fin 128) : arrBeta m c (ix2 0 j) = (argsOf m c).beta j := by
  rw [arrBeta, V_main_v16, V_main_arg23]
  pointwise [argsOf]

end Cert.KernelIdeal.Hand
-- ==== Proof.Precondition.lean ====
/- The precondition `packed_events`, read entry by entry: it gives `Args.Ok` (`ok_of_pre`). -/
module

public import proofs.«01_k».proof.Proof.KernelArrays
public import proofs.«01_k».proof.Defs
public import Idealize.ShloMosaic.Lib.StableHlo.Predicate
public import Idealize.ShloMosaic.Lib.Claim
public import Idealize.ShloMosaic.Lib.Pipeline.ValueKit.Point
public import Idealize.ShloMosaic.Lib.Pipeline.ValueKit.Geometry

@[expose] public section

set_option maxRecDepth 16384

noncomputable section

namespace Cert.KernelIdeal.Hand

open Cert.KernelIdeal Cert.KernelIdeal.Gen Cert.Events
open Idealize.ShloMosaic Idealize.ShloMosaic.TcCoe

variable (m : (ℓ : Loc nD τ sig) → Buf (Elt Ideal) ℓ) (c : Dev nD)

/-- A word that is at least zero and below `n`, both signed, is below `n` as a natural number. -/
theorem lt_of_range (x : BitVec 32) (n : ℕ) (hn : n < 2 ^ 31)
    (h : IntOp.andi (IntOp.cmpi .sge x 0#32) (IntOp.cmpi .slt x (BitVec.ofNat 32 n)) = 1#1) : x.toNat < n := by
  have hb : ∀ p q : Bool, (BitVec.ofBool p &&& BitVec.ofBool q = 1#1) → p = true ∧ q = true := by decide
  obtain ⟨h1, h2⟩ := hb _ _ h
  have h1 : (0#32).sle x = true := h1
  have h2 : x.slt (BitVec.ofNat 32 n) = true := h2
  rw [BitVec.sle, decide_eq_true_eq] at h1
  rw [BitVec.slt, decide_eq_true_eq, StableHlo.Predicate.toInt_ofNat_small n hn] at h2
  have h0 : (0#32 : BitVec 32).toInt = 0 := rfl
  rw [h0] at h1
  have hx : x.toInt = (x.toNat : ℤ) := by
    rw [BitVec.toInt_eq_msb_cond] at h1 ⊢
    by_cases hm : x.msb = true
    · rw [if_pos hm] at h1
      have := x.isLt
      omega
    · rw [if_neg hm]
  omega

/-- A number whose absolute value compares below infinity is finite. -/
theorem finite_of_cmp (x : EReal)
    (h : FloatOps.cmpf (F := Ideal) (φ := FTy.f32) .olt (FloatOps.absf (F := Ideal) (φ := FTy.f32) x) (Ideal.ofBits FTy.f32 0x7F800000#32) = 1#1) : Finite x := by
  apply finite_of_abs_lt
  have e : Ideal.ofBits FTy.f32 0x7F800000#32 = ⊤ := by simp [Ideal.ofBits, Ideal.ieee]
  rw [e] at h
  have h' : Ideal.cmp .olt (max x (-x)) ⊤ = 1#1 := h
  simpa only [Ideal.cmp, StableHlo.Predicate.ofBool_eq_one_iff, decide_eq_true_eq] using h'

/-- Batch and place of the event with number `t`, from `16 * batch + place = t`. -/
theorem slot_of (b e : BitVec 32) (t : ℕ) (ht : t < 16384) (hb : b.toNat < 1024) (he : e.toNat < 16)
    (h : IntOp.cmpi .eq (IntOp.addi (IntOp.muli b 16#32) e) (BitVec.ofNat 32 t) = 1#1) : b.toNat = t / 16 ∧ e.toNat = t % 16 := by
  have h' : IntOp.addi (IntOp.muli b 16#32) e = BitVec.ofNat 32 t := StableHlo.Predicate.cmpi_eq_iff.mp h
  have h2 := congrArg BitVec.toNat h'
  simp only [IntOp.addi, IntOp.muli, BitVec.toNat_add, BitVec.toNat_mul, BitVec.toNat_ofNat] at h2
  omega

/-- The precondition gives what the proofs assume of the arguments. -/
theorem ok_of_pre [hP : Cert.Pre_packed_events.Facts] (h : Cert.Pre_KernelIdeal_packed_events m) : (argsOf m c).Ok := by
  obtain ⟨h0, h1, h2, h3, h7, h8, hs, f4, f5, f6, f14, f16, f18, f20⟩ := h c
  have r7 : ∀ t, ((argsOf m c).batch t).toNat < 1024 := fun t => lt_of_range _ _ (by norm_num) (congrFun h7 (ix1 t))
  have r8 : ∀ t, ((argsOf m c).event t).toNat < 16 := fun t => lt_of_range _ _ (by norm_num) (congrFun h8 (ix1 t))
  have slot := fun t : Fin 16384 => slot_of _ _ t.val t.isLt (r7 t) (r8 t) (congrFun hs (ix1 t))
  exact
    { cardId := fun t k => lt_of_range _ _ (by norm_num) (congrFun h0 (ix2 t k))
      heroId := fun t => lt_of_range _ _ (by norm_num) (congrFun h1 (ix1 t))
      actingId := fun t => lt_of_range _ _ (by norm_num) (congrFun h2 (ix1 t))
      playersId := fun t => lt_of_range _ _ (by norm_num) (congrFun h3 (ix1 t))
      batch := fun t => (slot t).1
      event := fun t => (slot t).2
      scalars := fun t k => finite_of_cmp _ (congrFun f4 (ix2 t k))
      bets := fun t k => finite_of_cmp _ (congrFun f5 (ix2 t k))
      actions := fun t k => finite_of_cmp _ (congrFun f6 (ix2 t k))
      wScalar := fun t k => finite_of_cmp _ (congrFun f14 (ix2 t k))
      wBet := fun t k => finite_of_cmp _ (congrFun f16 (ix2 t k))
      wAct := fun t k => finite_of_cmp _ (congrFun f18 (ix2 t k))
      comb := fun d k hk => by
        have hk2 := k.isLt
        have e := congrFun f20 (ix2 d (⟨k.val - 512, by omega⟩ : Fin 384))
        have q : Finite ((argsOf m c).comb d ⟨512 + (k.val - 512), by omega⟩) := by
          refine finite_of_cmp _ (Eq.trans (congrArg (fun z => FloatOps.cmpf (F := Ideal) (φ := FTy.f32) .olt
            (FloatOps.absf (F := Ideal) (φ := FTy.f32) z) (Ideal.ofBits FTy.f32 0x7F800000#32)) ?_) e)
          refine congrArg (m ((c : Thread nD τ).loc main_arg20) : Vec Ideal S128x896 .f32) (funext fun a => ?_)
          fin_cases a
          · exact Fin.ext (Nat.zero_add d.val).symm
          · rfl
        have : (⟨512 + (k.val - 512), by omega⟩ : Fin 896) = k := Fin.ext (by show 512 + (k.val - 512) = k.val; omega)
        rwa [this] at q }

end Cert.KernelIdeal.Hand
-- ==== Proof.KernelBlocks.lean ====
/- The blocks a grid point works on, read as entries of the arguments, and the rows it stores as entries of the problem's
   mathematics (`normRow_blocks`). -/
module

public import proofs.«01_k».proof.Proof.KernelArrays
public import Idealize.ShloMosaic.Lib.Claim
public import Idealize.ShloMosaic.Lib.Pipeline.ValueKit.Point
public import Idealize.ShloMosaic.Lib.Pipeline.ValueKit.Geometry

@[expose] public section

set_option maxRecDepth 16384

noncomputable section

namespace Cert.KernelIdeal.Hand

open Cert.KernelIdeal Cert.KernelIdeal.Gen Cert.Events
open Idealize.ShloMosaic Idealize.ShloMosaic.TcCoe

variable (m : (ℓ : Loc nD τ sig) → Buf (Elt Ideal) ℓ) (c : Dev nD)

/-! ## The blocks of a grid point -/

/-- The two event windows move with the grid point; every other input window stays at its whole array. -/
theorem moving : ∀ t : Fin cfg0.N, win0_0.index t = ![t.val, 0] ∧ win0_1.index t = ![t.val, 0] := by decide +kernel

/-- The windows of the tables and weights stay at block zero. -/
theorem still : ∀ t : Fin cfg0.N, win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] := by decide +kernel

/-- The array event of a grid point's local event. -/
def eventOf (t : Fin cfg0.N) (e : Fin 2048) : Fin 16384 :=
  ⟨t.val * 2048 + e.val, by have h : t.val < 8 := t.isLt; omega⟩

variable (t : Fin cfg0.N)

/-- The integer block of a grid point. -/
theorem block_idx (e : Fin 2048) (k : Fin 16) :
    (blocks m c t).idx (ix2 e k) = arrIdx m c (ix2 (eventOf t e) k) := by
  have h := (moving t).1
  show (iblk m c 0 t : Vec Ideal S2048x16 .i32) (ix2 e k) = (V m c main_v4 : Vec Ideal S16384x16 .i32) (ix2 (eventOf t e) k)
  blk_ext [iblk, h, eventOf]

/-- The float block of a grid point. -/
theorem block_flt (e : Fin 2048) (k : Fin 27) :
    (blocks m c t).flt (ix2 e k) = arrFlt m c (ix2 (eventOf t e) k) := by
  have h := (moving t).2
  show (iblk m c 1 t : Vec Ideal S2048x27 .f32) (ix2 e k) = (V m c main_v5 : Vec Ideal S16384x27 .f32) (ix2 (eventOf t e) k)
  blk_ext [iblk, h, eventOf]

/-- The other windows' blocks are their whole arrays. -/
theorem block_cards : (blocks m c t).cards = arrCards m c := by
  have h := (still t).1
  funext y
  show (iblk m c 2 t : Vec Ideal S64x128 .f32) y = (V m c main_v6 : Vec Ideal S64x128 .f32) y
  blk_ext [iblk, h]
@[inherit_doc block_cards] theorem block_street : (blocks m c t).street = arrStreet m c := by
  have h := (still t).2.1
  funext y
  show (iblk m c 3 t : Vec Ideal S2x128 .f32) y = (V m c main_arg10 : Vec Ideal S2x128 .f32) y
  blk_ext [iblk, h]
@[inherit_doc block_cards] theorem block_hero : (blocks m c t).hero = arrHero m c := by
  have h := (still t).2.2.1
  funext y
  show (iblk m c 4 t : Vec Ideal S16x128 .f32) y = (V m c main_v7 : Vec Ideal S16x128 .f32) y
  blk_ext [iblk, h]
@[inherit_doc block_cards] theorem block_acting : (blocks m c t).acting = arrActing m c := by
  have h := (still t).2.2.2.1
  funext y
  show (iblk m c 5 t : Vec Ideal S16x128 .f32) y = (V m c main_v8 : Vec Ideal S16x128 .f32) y
  blk_ext [iblk, h]
@[inherit_doc block_cards] theorem block_players : (blocks m c t).players = arrPlayers m c := by
  have h := (still t).2.2.2.2.1
  funext y
  show (iblk m c 6 t : Vec Ideal S16x128 .f32) y = (V m c main_v9 : Vec Ideal S16x128 .f32) y
  blk_ext [iblk, h]
@[inherit_doc block_cards] theorem block_comb : (blocks m c t).comb = arrComb m c := by
  have h := (still t).2.2.2.2.2.1
  funext y
  show (iblk m c 7 t : Vec Ideal S128x896 .f32) y = (V m c main_arg20 : Vec Ideal S128x896 .f32) y
  blk_ext [iblk, h]
@[inherit_doc block_cards] theorem block_wScalar : (blocks m c t).wScalar = arrScalar m c := by
  have h := (still t).2.2.2.2.2.2.1
  funext y
  show (iblk m c 8 t : Vec Ideal S128x2 .f32) y = (V m c main_arg14 : Vec Ideal S128x2 .f32) y
  blk_ext [iblk, h]
@[inherit_doc block_cards] theorem block_wBet : (blocks m c t).wBet = arrBet m c := by
  have h := (still t).2.2.2.2.2.2.2.1
  funext y
  show (iblk m c 9 t : Vec Ideal S128x9 .f32) y = (V m c main_arg16 : Vec Ideal S128x9 .f32) y
  blk_ext [iblk, h]
@[inherit_doc block_cards] theorem block_wAct : (blocks m c t).wAct = arrAct m c := by
  have h := (still t).2.2.2.2.2.2.2.2.1
  funext y
  show (iblk m c 10 t : Vec Ideal S128x16 .f32) y = (V m c main_arg18 : Vec Ideal S128x16 .f32) y
  blk_ext [iblk, h]
@[inherit_doc block_cards] theorem block_biases : (blocks m c t).biases = arrBiases m c := by
  have h := (still t).2.2.2.2.2.2.2.2.2.1
  funext y
  show (iblk m c 11 t : Vec Ideal S4x128 .f32) y = (V m c main_v14 : Vec Ideal S4x128 .f32) y
  blk_ext [iblk, h]
@[inherit_doc block_cards] theorem block_gamma : (blocks m c t).gamma = arrGamma m c := by
  have h := (still t).2.2.2.2.2.2.2.2.2.2.1
  funext y
  show (iblk m c 12 t : Vec Ideal S1x128 .f32) y = (V m c main_v15 : Vec Ideal S1x128 .f32) y
  blk_ext [iblk, h]
@[inherit_doc block_cards] theorem block_beta : (blocks m c t).beta = arrBeta m c := by
  have h := (still t).2.2.2.2.2.2.2.2.2.2.2
  funext y
  show (iblk m c 13 t : Vec Ideal S1x128 .f32) y = (V m c main_v16 : Vec Ideal S1x128 .f32) y
  blk_ext [iblk, h]

end Cert.KernelIdeal.Hand
-- ==== Proof.KernelValue.lean ====
/- The rows a grid point stores are the rows of the problem's mathematics (`normRow_blocks`). -/
module

public import proofs.«01_k».proof.Proof.KernelBlocks
public import Idealize.ShloMosaic.Lib.Claim
public import Idealize.ShloMosaic.Lib.Pipeline.ValueKit.Point
public import Idealize.ShloMosaic.Lib.Pipeline.ValueKit.Geometry

@[expose] public section

set_option maxRecDepth 16384

noncomputable section

namespace Cert.KernelIdeal.Hand

open Cert.KernelIdeal Cert.KernelIdeal.Gen Cert.Events
open Idealize.ShloMosaic Idealize.ShloMosaic.TcCoe

open scoped BigOperators

variable (m : (ℓ : Loc nD τ sig) → Buf (Elt Ideal) ℓ) (c : Dev nD)

variable (t : Fin cfg0.N)

/-- A padded table's row named by an id in range is the table's entry. -/
theorem look_cards (x : BitVec 32) (hx : x.toNat < 53) (j : Fin 128) :
    arrCards m c (ix2 ⟨x.toNat, by omega⟩ j) = look (fun i => (argsOf m c).cards i j) x := by
  rw [look_of_lt _ _ hx]
  exact table_cards m c ⟨x.toNat, hx⟩ j
@[inherit_doc look_cards] theorem look_heroes (x : BitVec 32) (hx : x.toNat < 9) (j : Fin 128) :
    arrHero m c (ix2 ⟨x.toNat, by omega⟩ j) = look (fun i => (argsOf m c).heroes i j) x := by
  rw [look_of_lt _ _ hx]
  exact table_heroes m c ⟨x.toNat, hx⟩ j
@[inherit_doc look_cards] theorem look_actings (x : BitVec 32) (hx : x.toNat < 9) (j : Fin 128) :
    arrActing m c (ix2 ⟨x.toNat, by omega⟩ j) = look (fun i => (argsOf m c).actings i j) x := by
  rw [look_of_lt _ _ hx]
  exact table_actings m c ⟨x.toNat, hx⟩ j
@[inherit_doc look_cards] theorem look_players (x : BitVec 32) (hx : x.toNat < 10) (j : Fin 128) :
    arrPlayers m c (ix2 ⟨x.toNat, by omega⟩ j) = look (fun i => (argsOf m c).players i j) x := by
  rw [look_of_lt _ _ hx]
  exact table_players m c ⟨x.toNat, hx⟩ j

/-- Entry of `W_comb` as the launch reads it. -/
theorem comb_entry (d : Fin 128) (k : Fin 896) : arrComb m c (ix2 d k) = (argsOf m c).comb d k := by
  rw [arrComb, V_main_arg20]; rfl
/-- Entry of the layer's weights as the launch reads it. -/
theorem wScalar_entry (j : Fin 128) (k : Fin 2) : arrScalar m c (ix2 j k) = (argsOf m c).wScalar j k := by
  rw [arrScalar, V_main_arg14]; rfl
/-- Entry of the layer's weights as the launch reads it. -/
theorem wBet_entry (j : Fin 128) (k : Fin 9) : arrBet m c (ix2 j k) = (argsOf m c).wBet j k := by
  rw [arrBet, V_main_arg16]; rfl
/-- Entry of the layer's weights as the launch reads it. -/
theorem wAct_entry (j : Fin 128) (k : Fin 16) : arrAct m c (ix2 j k) = (argsOf m c).wAct j k := by
  rw [arrAct, V_main_arg18]; rfl
/-- Entry of the street table as the launch reads it. -/
theorem street_entry (s : Fin 2) (d : Fin 128) : arrStreet m c (ix2 s d) = (argsOf m c).streets s d := by
  rw [arrStreet, V_main_arg10]; rfl

/-- The row of a grid point's event before the normalisation is the row of the problem's mathematics. -/
theorem preRow_blocks (h : (argsOf m c).Ok) (k : Fin 7) (e : Fin 2048) (d : Fin 128) :
    preRow (blocks m c t) ⟨k.val, by omega⟩ (streetOf k.val) e d = (argsOf m c).pre (eventOf t e) k d := by
  have hc := h.cardId (eventOf t e) k
  have hh := h.heroId (eventOf t e)
  have ha := h.actingId (eventOf t e)
  have hp := h.playersId (eventOf t e)
  rw [Args.pre_folded _ h]
  unfold preRow
  rw [context_apply, biasRow_apply]
  simp only [block_idx, block_flt, ids_card, ids_hero, ids_acting, ids_players, floats_scalars, floats_bets, floats_actions]
  rw [sum_hot (by norm_num) _ (by omega : ((argsOf m c).cardId (eventOf t e) k).toNat < 64),
    sum_hot (by norm_num) _ (by omega : ((argsOf m c).heroId (eventOf t e)).toNat < 16),
    sum_hot (by norm_num) _ (by omega : ((argsOf m c).actingId (eventOf t e)).toNat < 16),
    sum_hot (by norm_num) _ (by omega : ((argsOf m c).playersId (eventOf t e)).toNat < 16)]
  simp only [projCards_apply, projHero_apply, projActing_apply, projPlayers_apply, projScalar_apply, projBet_apply, projAct_apply,
    block_cards, block_street, block_hero, block_acting, block_players, block_comb, block_wScalar, block_wBet, block_wAct, block_biases,
    look_cards m c _ hc, look_heroes m c _ hh, look_actings m c _ ha, look_players m c _ hp, comb_entry, wScalar_entry, wBet_entry,
    wAct_entry, street_entry, bias_bScalar, bias_bBet, bias_bAct, bias_bComb]

/-- The normalised row of a grid point's event is the row of the problem's mathematics. -/
theorem normRow_blocks (h : (argsOf m c).Ok) (k : Fin 7) (e : Fin 2048) (d : Fin 128) :
    normRow (blocks m c t) ⟨k.val, by omega⟩ (streetOf k.val) e d = (argsOf m c).out (eventOf t e) k d := by
  unfold normRow Args.out
  rw [show preRow (blocks m c t) ⟨k.val, by omega⟩ (streetOf k.val) e = (argsOf m c).pre (eventOf t e) k from
    funext fun d => preRow_blocks m c t h k e d, block_gamma, block_beta]
  simp only [scale_row, shift_row]

end Cert.KernelIdeal.Hand
-- ==== Proof.KernelResults.lean ====
/- The two results of the kernel program: the tokens are the problem's mathematics, the mask is all ones (`results`). -/
module

public import proofs.«01_k».proof.Proof.KernelValue
public import Idealize.ShloMosaic.Lib.Claim
public import Idealize.ShloMosaic.Lib.Pipeline.ValueKit.Point
public import Idealize.ShloMosaic.Lib.Pipeline.ValueKit.Geometry

@[expose] public section

set_option maxRecDepth 16384

noncomputable section

namespace Cert.KernelIdeal.Hand

open Cert.KernelIdeal Cert.KernelIdeal.Gen Cert.Events
open Idealize.ShloMosaic Idealize.ShloMosaic.TcCoe

variable (m : (ℓ : Loc nD τ sig) → Buf (Elt Ideal) ℓ) (c : Dev nD)

/-- The row array the kernel fills: event `r / 7`, card `r % 7` at row `r`. -/
def rowsArr : Vec Ideal S114688x128 .f32 := fun y =>
  (argsOf m c).out ⟨(y 0).val / 7, by have h : (y 0).val < 114688 := (y 0).isLt; omega⟩ ⟨(y 0).val % 7, by omega⟩ (y 1)

/-- The first result as an array. -/
def tokensArr : Vec Ideal S1024x112x128 .f32 := fun y => (argsOf m c).tokens (y 0) (y 1) (y 2)

/-- The second result as an array: all ones. -/
def maskArr : Vec Ideal S1024x112 .f32 := fun _ => 1

/-- The output windows move with the grid point. -/
theorem moving_out : ∀ t : Fin cfg0.N, win0_14.index t = ![t.val, 0] ∧ win0_15.index t = ![t.val, 0] := by decide +kernel

/-- The row array after the last grid point. -/
theorem rows_final (h : (argsOf m c).Ok) : (dats m 0 c).arrAt 14 cfg0.N = rowsArr m c := by
  refine (dats m 0 c).arrAt_eq_of_covers 14 _ (by decide +kernel) fun t hf y => ?_
  have e := (moving_out t).1
  blk_simp
  rw [after_14, outRows_apply]
  have hy0 : (y 0).val < 14336 := (y 0).isLt
  have a0 : (((cfg0.win 14).blk t).view.emb y 0).val = t.val * 14336 + (y 0).val := by blk_simp [e]
  have a1 : (((cfg0.win 14).blk t).view.emb y 1).val = (y 1).val := by blk_simp [e]
  refine (normRow_blocks m c t h ⟨(y 0).val % 7, by omega⟩ ⟨(y 0).val / 7, by omega⟩ (y 1)).trans ?_
  unfold rowsArr
  congr 1
  · apply Fin.ext
    show t.val * 2048 + (y 0).val / 7 = (((cfg0.win 14).blk t).view.emb y 0).val / 7
    omega
  · apply Fin.ext
    show (y 0).val % 7 = (((cfg0.win 14).blk t).view.emb y 0).val % 7
    omega
  · exact Fin.ext a1.symm

/-- The mask after the last grid point. -/
theorem mask_final : (dats m 0 c).arrAt 15 cfg0.N = maskArr := by
  refine (dats m 0 c).arrAt_eq_of_covers 15 _ (by decide +kernel) fun t hf y => ?_
  blk_simp
  rw [after_15, outMask_apply]
  rfl

/-- The first result is the row array read as batches of 112 rows. -/
theorem tokens_final (h : (argsOf m c).Ok) :
    Pipeline.afterTail₀ cfgs (dats m) 0 (V0 m) [hostOps1] c main_v18 = tokensArr m c := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.tc.devRef main_v17_0)
    = rowsArr m c from (Pipeline.withArrays_arr spec0 launch0.win.arr_inj c (V0 m c) _ 14).trans (rows_final m c h)]
  funext y
  obtain ⟨B, e, d, rfl⟩ : ∃ (B : Fin 1024) (e : Fin 112) (d : Fin 128), y = ix3 B e d := ⟨y 0, y 1, y 2, eq_ix3 y⟩
  show shapeCast S1024x112x128 (rowsArr m c) shapeCasts_S114688x128_S1024x112x128 (ix3 B e d) = _
  pointwise
  unfold rowsArr tokensArr Args.tokens
  congr 1
  · apply Fin.ext
    show (B.val * 112 + e.val) / 7 = 16 * B.val + e.val / 7
    omega
  · apply Fin.ext
    show (B.val * 112 + e.val) % 7 = e.val % 7
    omega

variable (ρ : Dev nD → PrngReg)

/-- Every run of the kernel program from arguments satisfying the precondition ends with the tokens in the first result, ones in
    the second, the arguments unchanged. -/
theorem results (h : ∀ c, (argsOf m c).Ok) :
    θ_run defs (onTc (τ := τ) (main (F := Ideal))) ⟨m, fun _ => 0, ρ⟩ (fun r => ∀ c : Dev nD,
      r.2.mem ((c.tc : Thread nD τ).loc main_v18) = tokensArr m c
      ∧ r.2.mem ((c.tc : Thread nD τ).loc main_v17_1) = maskArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r hr c => ⟨((hr.1 c).2 main_v18 (by decide +kernel)).trans (tokens_final m c (h c)),
      ((hr.1 c).1 15).trans (mask_final m c), hr.2.1 c⟩)
    (θ_run_and (run m ρ) (unchanged m ρ))

end Cert.KernelIdeal.Hand
-- ==== Proof.ReferenceTakes.lean ====
/- The table lookups of the reference, read entry by entry: with every id in range, the lookup's range test passes everywhere and
   the entry is the table's at the id. -/
module

public import proofs.«01_k».proof.Proof.Spec
public import proofs.«01_k».proof.Proof.Gen.ReferenceIdeal.Read
public import Idealize.ShloMosaic.Lib.ReduceAll
public import Idealize.ShloMosaic.Lib.Routing.Ops
public import Idealize.ShloMosaic.Lib.Routing.OpsPair
public import Idealize.ShloMosaic.Lib.StableHlo.Predicate

@[expose] public section

set_option maxRecDepth 16384

noncomputable section

namespace Cert.ReferenceIdeal.Hand

open Cert.ReferenceIdeal Cert.ReferenceIdeal.Read Cert.Events
open Idealize.ShloMosaic

variable [Cert.ReferenceIdeal.Facts]

/-- The range test of a lookup passes on an id below the table's length. -/
theorem test_passes {n : ℕ} (x u : BitVec 32) (hx : x.toNat < n) (hn : n ≤ 2 ^ 31) (hu : u.toNat = n - 1) :
    IntOp.andi (IntOp.cmpi .sge x 0#32) (IntOp.cmpi .sle x u) = 1#1 := by
  have h1 : IntOp.cmpi .sge x 0#32 = 1#1 := (StableHlo.Predicate.sge_iff_toNat (by omega) (by decide)).2 (by simp)
  have h2 : IntOp.cmpi .sle x u = 1#1 := (StableHlo.Predicate.sle_iff_toNat (by omega) (by omega)).2 (by omega)
  rw [h1, h2]; decide

/-- A lookup of an id below the table's length does not wrap it. -/
theorem wrap_id {n : ℕ} (x a : BitVec 32) (hx : x.toNat < n) (hn : n ≤ 2 ^ 31) :
    Scalar.select (IntOp.cmpi .slt x 0#32) a x = x := Routing.wrap_of_lt x a (by omega)

/-- An id is the word of its number. -/
theorem word_of {n : ℕ} (x : BitVec 32) (hx : x.toNat < n) : x = BitVec.ofNat 32 (⟨x.toNat, hx⟩ : Fin n).val := by simp

/-- A row lookup by a table of row numbers of two axes: entry `(c, k, y)` is the table's entry `(b, y)`, `b` the row number at
    `(c, k)`. -/
theorem gather_cards (x : Vec Ideal S53x128 .f32) (idx : IVec S16384x7x1 32) (c : Fin 16384) (k : Fin 7) (y : Fin 128)
    (b : Fin 53) (hb : idx (ix3 c k (0 : Fin 1)) = BitVec.ofNat 32 b.val) :
    Host.gather gather_S53x128_S16384x7x1_S16384x7x128_2_0_n_n_0_2_1128 x idx (ix3 c k y) = x (ix2 b y) := by
  unfold Host.gather
  refine congrArg x (funext fun a => Fin.ext ?_)
  match a with
  | ⟨0, _⟩ =>
    show min (idx (GatherDims.siIdx gather_S53x128_S16384x7x1_S16384x7x128_2_0_n_n_0_2_1128 (ix3 c k y) ⟨0, by decide⟩)).toInt.toNat 52 + 0 + 0 = b.val
    have hsi : GatherDims.siIdx gather_S53x128_S16384x7x1_S16384x7x128_2_0_n_n_0_2_1128 (ix3 c k y) ⟨0, by decide⟩ = ix3 c k (0 : Fin 1) := by
      funext e
      match e with
      | ⟨0, _⟩ => rfl
      | ⟨1, _⟩ => rfl
      | ⟨2, _⟩ => rfl
    rw [hsi, hb, StableHlo.Predicate.toInt_ofNat_small _ (by omega)]
    have := b.isLt
    omega
  | ⟨1, _⟩ => exact Nat.zero_add _

variable (x0 : Vec Ideal S16384x7 .i32)

/-- The cards' range test passes everywhere. -/
theorem call0_test (h : ∀ t k, (x0 (ix2 t k)).toNat < 53) (i : S16384x7.Idx) : val_main_call0_v12 (F := Ideal) x0 i = 1#1 := by
  refine Host.reduce_andi_one _ _ _ _ i rfl fun i => ?_
  simp only [val_main_call0_v11_apply, val_main_call0_v7_apply, val_main_call0_v10_apply, val_main_call0_v5_apply,
    val_main_call0_v4_apply, val_main_call0_v1_apply, val_main_call0_v0_apply, val_main_call0_c_apply, val_main_call0_v6_apply,
    val_main_call0_c_2_apply, val_main_call0_v9_apply, val_main_call0_v8_apply, val_main_call0_c_1_apply]
  have hx := h (idx_main_call0_v5 i 0) (idx_main_call0_v5 i 1)
  rw [← eq_ix2] at hx
  rw [wrap_id _ _ hx (by decide)]
  exact test_passes _ _ hx (by decide) (by decide)

/-- The card embeddings: the table's row the card's id names. -/
theorem take_cards (x9 : Vec Ideal S53x128 .f32) (h : ∀ t k, (x0 (ix2 t k)).toNat < 53) (t : Fin 16384) (k : Fin 7) (j : Fin 128) :
    val_main_v0 (F := Ideal) x0 x9 (ix3 t k j) = look (fun i => x9 (ix2 i j)) (x0 (ix2 t k)) := by
  rw [val_main_v0_apply, val_main_call0_v14_apply, call0_test x0 h, look_of_lt _ _ (h t k)]
  refine gather_cards x9 _ t k j ⟨(x0 (ix2 t k)).toNat, h t k⟩ ?_
  rw [val_main_call0_v5_apply, val_main_call0_v4_apply, val_main_call0_v1_apply, val_main_call0_v0_apply, val_main_call0_c_apply]
  have e : idx_main_call0_v5 (ix3 t k (0 : Fin 1)) = ix2 t k := by
    funext a; match a with | ⟨0, _⟩ => rfl | ⟨1, _⟩ => rfl
  rw [e]
  exact (wrap_id _ _ (h t k) (by decide)).trans (word_of _ (h t k))

/-- The range test of the hero positions passes everywhere. -/
theorem call1_test (x1 : Vec Ideal S16384 .i32) (h : ∀ t, (x1 (ix1 t)).toNat < 9) (i : S16384.Idx) :
    val_main_call1_v12 (F := Ideal) x1 i = 1#1 := by
  refine Host.reduce_andi_one _ _ _ _ i rfl fun i => ?_
  simp only [val_main_call1_v11_apply, val_main_call1_v7_apply, val_main_call1_v10_apply, val_main_call1_v5_apply, val_main_call1_v4_apply, val_main_call1_v1_apply,
    val_main_call1_v0_apply, val_main_call1_c_apply, val_main_call1_v6_apply, val_main_call1_c_2_apply, val_main_call1_v9_apply, val_main_call1_v8_apply,
    val_main_call1_c_1_apply]
  have hx := h (idx_main_call1_v5 i 0)
  rw [← eq_ix1] at hx
  rw [wrap_id _ _ hx (by decide)]
  exact test_passes _ _ hx (by decide) (by decide)

/-- The embeddings of the hero positions: the table's row the id names. -/
theorem take_heroes (x1 : Vec Ideal S16384 .i32) (x11 : Vec Ideal S9x128 .f32) (h : ∀ t, (x1 (ix1 t)).toNat < 9) (t : Fin 16384)
    (j : Fin 128) : val_main_v1 (F := Ideal) x1 x11 (ix2 t j) = look (fun i => x11 (ix2 i j)) (x1 (ix1 t)) := by
  rw [val_main_v1_apply, val_main_call1_v14_apply, call1_test x1 h, look_of_lt _ _ (h t)]
  refine Routing.gather_row gather_S9x128_S16384x1_S16384x128_1_0_n_n_0_1_1128 rfl rfl rfl rfl rfl x11 _ t j
    ⟨(x1 (ix1 t)).toNat, h t⟩ ?_ (by decide)
  rw [val_main_call1_v5_apply, val_main_call1_v4_apply, val_main_call1_v1_apply, val_main_call1_v0_apply, val_main_call1_c_apply]
  have e : idx_main_call1_v5 (ValueIdx.ix2 t (0 : Fin 1)) = ix1 t := by funext a; match a with | ⟨0, _⟩ => rfl
  rw [e]
  exact (wrap_id _ _ (h t) (by decide)).trans (word_of _ (h t))

/-- The range test of the acting players passes everywhere. -/
theorem call2_test (x2 : Vec Ideal S16384 .i32) (h : ∀ t, (x2 (ix1 t)).toNat < 9) (i : S16384.Idx) :
    val_main_call2_v12 (F := Ideal) x2 i = 1#1 := by
  refine Host.reduce_andi_one _ _ _ _ i rfl fun i => ?_
  simp only [val_main_call2_v11_apply, val_main_call2_v7_apply, val_main_call2_v10_apply, val_main_call2_v5_apply, val_main_call2_v4_apply, val_main_call2_v1_apply,
    val_main_call2_v0_apply, val_main_call2_c_apply, val_main_call2_v6_apply, val_main_call2_c_2_apply, val_main_call2_v9_apply, val_main_call2_v8_apply,
    val_main_call2_c_1_apply]
  have hx := h (idx_main_call2_v5 i 0)
  rw [← eq_ix1] at hx
  rw [wrap_id _ _ hx (by decide)]
  exact test_passes _ _ hx (by decide) (by decide)

/-- The embeddings of the acting players: the table's row the id names. -/
theorem take_actings (x2 : Vec Ideal S16384 .i32) (x12 : Vec Ideal S9x128 .f32) (h : ∀ t, (x2 (ix1 t)).toNat < 9) (t : Fin 16384)
    (j : Fin 128) : val_main_v2 (F := Ideal) x2 x12 (ix2 t j) = look (fun i => x12 (ix2 i j)) (x2 (ix1 t)) := by
  rw [val_main_v2_apply, val_main_call2_v14_apply, call2_test x2 h, look_of_lt _ _ (h t)]
  refine Routing.gather_row gather_S9x128_S16384x1_S16384x128_1_0_n_n_0_1_1128 rfl rfl rfl rfl rfl x12 _ t j
    ⟨(x2 (ix1 t)).toNat, h t⟩ ?_ (by decide)
  rw [val_main_call2_v5_apply, val_main_call2_v4_apply, val_main_call2_v1_apply, val_main_call2_v0_apply, val_main_call2_c_apply]
  have e : idx_main_call2_v5 (ValueIdx.ix2 t (0 : Fin 1)) = ix1 t := by funext a; match a with | ⟨0, _⟩ => rfl
  rw [e]
  exact (wrap_id _ _ (h t) (by decide)).trans (word_of _ (h t))

/-- The range test of the player counts passes everywhere. -/
theorem call3_test (x3 : Vec Ideal S16384 .i32) (h : ∀ t, (x3 (ix1 t)).toNat < 10) (i : S16384.Idx) :
    val_main_call3_v12 (F := Ideal) x3 i = 1#1 := by
  refine Host.reduce_andi_one _ _ _ _ i rfl fun i => ?_
  simp only [val_main_call3_v11_apply, val_main_call3_v7_apply, val_main_call3_v10_apply, val_main_call3_v5_apply, val_main_call3_v4_apply, val_main_call3_v1_apply,
    val_main_call3_v0_apply, val_main_call3_c_apply, val_main_call3_v6_apply, val_main_call3_c_2_apply, val_main_call3_v9_apply, val_main_call3_v8_apply,
    val_main_call3_c_1_apply]
  have hx := h (idx_main_call3_v5 i 0)
  rw [← eq_ix1] at hx
  rw [wrap_id _ _ hx (by decide)]
  exact test_passes _ _ hx (by decide) (by decide)

/-- The embeddings of the player counts: the table's row the id names. -/
theorem take_players (x3 : Vec Ideal S16384 .i32) (x13 : Vec Ideal S10x128 .f32) (h : ∀ t, (x3 (ix1 t)).toNat < 10) (t : Fin 16384)
    (j : Fin 128) : val_main_v3 (F := Ideal) x3 x13 (ix2 t j) = look (fun i => x13 (ix2 i j)) (x3 (ix1 t)) := by
  rw [val_main_v3_apply, val_main_call3_v14_apply, call3_test x3 h, look_of_lt _ _ (h t)]
  refine Routing.gather_row gather_S10x128_S16384x1_S16384x128_1_0_n_n_0_1_1128 rfl rfl rfl rfl rfl x13 _ t j
    ⟨(x3 (ix1 t)).toNat, h t⟩ ?_ (by decide)
  rw [val_main_call3_v5_apply, val_main_call3_v4_apply, val_main_call3_v1_apply, val_main_call3_v0_apply, val_main_call3_c_apply]
  have e : idx_main_call3_v5 (ValueIdx.ix2 t (0 : Fin 1)) = ix1 t := by funext a; match a with | ⟨0, _⟩ => rfl
  rw [e]
  exact (wrap_id _ _ (h t) (by decide)).trans (word_of _ (h t))

/-- The street row a card takes, as the reference computes it: 0 for the first five cards, 1 for the last two. -/
theorem street_id (k : Fin 7) : val_main_v33 (F := Ideal) (ix1 k) = BitVec.ofNat 32 (streetOf k.val).val := by
  rw [val_main_v33_apply, val_main_v32_apply, val_main_v30_apply, val_main_v31_apply, val_main_c_apply]
  show (IntOp.cmpi .sge (BitVec.ofNat 32 k.val) 5#32).setWidth 32 = _
  revert k; decide

/-- A street row's number is below 2. -/
theorem street_id_lt (k : Fin 7) : (val_main_v33 (F := Ideal) (ix1 k)).toNat < 2 := by
  rw [street_id, BitVec.toNat_ofNat]
  have := (streetOf k.val).isLt
  omega

/-- The range test of the streets passes everywhere. -/
theorem call4_test (i : S7.Idx) : val_main_call4_v12 (F := Ideal) i = 1#1 := by
  refine Host.reduce_andi_one _ _ _ _ i rfl fun i => ?_
  simp only [val_main_call4_v11_apply, val_main_call4_v7_apply, val_main_call4_v10_apply, val_main_call4_v5_apply, val_main_call4_v4_apply, val_main_call4_v1_apply,
    val_main_call4_v0_apply, val_main_call4_c_apply, val_main_call4_v6_apply, val_main_call4_c_2_apply, val_main_call4_v9_apply, val_main_call4_v8_apply,
    val_main_call4_c_1_apply]
  have hx := street_id_lt (idx_main_call4_v5 i 0)
  rw [← eq_ix1] at hx
  rw [wrap_id _ _ hx (by decide)]
  exact test_passes _ _ hx (by decide) (by decide)

/-- The street embeddings: the table's row of the card's street. -/
theorem take_streets (x10 : Vec Ideal S2x128 .f32) (k : Fin 7) (j : Fin 128) :
    val_main_v34 (F := Ideal) x10 (ix2 k j) = x10 (ix2 (streetOf k.val) j) := by
  rw [val_main_v34_apply, val_main_call4_v14_apply, call4_test]
  refine Routing.gather_row gather_S2x128_S7x1_S7x128_1_0_n_n_0_1_1128 rfl rfl rfl rfl rfl x10 _ k j (streetOf k.val) ?_ (by decide)
  rw [val_main_call4_v5_apply, val_main_call4_v4_apply, val_main_call4_v1_apply, val_main_call4_v0_apply, val_main_call4_c_apply]
  have e : idx_main_call4_v5 (ValueIdx.ix2 k (0 : Fin 1)) = ix1 k := by funext a; match a with | ⟨0, _⟩ => rfl
  rw [e]
  exact (wrap_id _ _ (street_id_lt k) (by decide)).trans (street_id k)

end Cert.ReferenceIdeal.Hand
-- ==== Proof.ReferenceRows.lean ====
/- The rows of the reference before the normalisation, read entry by entry: the joined features of an event and a card, their
   product with `W_comb` transposed, the bias and the street row (`row_pre`). -/
module

public import proofs.«01_k».proof.Proof.ReferenceTakes
public import Idealize.ShloMosaic.Lib.Pipeline.Value
public import Idealize.ShloMosaic.Lib.Pointwise

@[expose] public section

set_option maxRecDepth 16384

noncomputable section

namespace Cert.ReferenceIdeal.Hand

open Cert.ReferenceIdeal Cert.ReferenceIdeal.Read Cert.Events
open Idealize.ShloMosaic
open scoped BigOperators

variable [Cert.ReferenceIdeal.Facts]

/-- The contents of the 24 argument arrays. -/
structure Arrays where
  x0 : Vec Ideal S16384x7 .i32
  x1 : Vec Ideal S16384 .i32
  x2 : Vec Ideal S16384 .i32
  x3 : Vec Ideal S16384 .i32
  x4 : Vec Ideal S16384x2 .f32
  x5 : Vec Ideal S16384x9 .f32
  x6 : Vec Ideal S16384x16 .f32
  x7 : Vec Ideal S16384 .i32
  x8 : Vec Ideal S16384 .i32
  x9 : Vec Ideal S53x128 .f32
  x10 : Vec Ideal S2x128 .f32
  x11 : Vec Ideal S9x128 .f32
  x12 : Vec Ideal S9x128 .f32
  x13 : Vec Ideal S10x128 .f32
  x14 : Vec Ideal S128x2 .f32
  x15 : Vec Ideal S128 .f32
  x16 : Vec Ideal S128x9 .f32
  x17 : Vec Ideal S128 .f32
  x18 : Vec Ideal S128x16 .f32
  x19 : Vec Ideal S128 .f32
  x20 : Vec Ideal S128x896 .f32
  x21 : Vec Ideal S128 .f32
  x22 : Vec Ideal S128 .f32
  x23 : Vec Ideal S128 .f32

/-- The arguments, entry by entry. -/
def Arrays.args (A : Arrays) : Args where
  cardId t k := A.x0 (ix2 t k)
  heroId t := A.x1 (ix1 t)
  actingId t := A.x2 (ix1 t)
  playersId t := A.x3 (ix1 t)
  scalars t k := A.x4 (ix2 t k)
  bets t k := A.x5 (ix2 t k)
  actions t k := A.x6 (ix2 t k)
  batch t := A.x7 (ix1 t)
  event t := A.x8 (ix1 t)
  cards t k := A.x9 (ix2 t k)
  streets t k := A.x10 (ix2 t k)
  heroes t k := A.x11 (ix2 t k)
  actings t k := A.x12 (ix2 t k)
  players t k := A.x13 (ix2 t k)
  wScalar t k := A.x14 (ix2 t k)
  bScalar t := A.x15 (ix1 t)
  wBet t k := A.x16 (ix2 t k)
  bBet t := A.x17 (ix1 t)
  wAct t k := A.x18 (ix2 t k)
  bAct t := A.x19 (ix1 t)
  comb t k := A.x20 (ix2 t k)
  bComb t := A.x21 (ix1 t)
  gamma t := A.x22 (ix1 t)
  beta t := A.x23 (ix1 t)

variable (A : Arrays)

/-- The features shared by the seven cards of an event, joined. -/
def Arrays.shared : Vec Ideal S16384x768 .f32 := val_main_v19 (F := Ideal) A.x1 A.x2 A.x3 A.x4 A.x5 A.x6 A.x11 A.x12 A.x13 A.x14 A.x15 A.x16 A.x17 A.x18 A.x19

/-- The features of each card of an event, joined. -/
def Arrays.joined : Vec Ideal S16384x7x896 .f32 := val_main_v22 (F := Ideal) A.x0 A.x1 A.x2 A.x3 A.x4 A.x5 A.x6 A.x9 A.x11 A.x12 A.x13 A.x14 A.x15 A.x16 A.x17 A.x18 A.x19

/-- The rows before the normalisation. -/
def Arrays.rows : Vec Ideal S16384x7x128 .f32 := val_main_v37 (F := Ideal) A.x0 A.x1 A.x2 A.x3 A.x4 A.x5 A.x6 A.x9 A.x10 A.x11 A.x12 A.x13 A.x14 A.x15 A.x16 A.x17 A.x18 A.x19 A.x20 A.x21

/-- The six blocks of the shared features. -/
def Arrays.block (t : Fin 16384) (j : Fin 128) : Fin 6 → EReal :=
  ![look (fun i => A.args.heroes i j) (A.args.heroId t), look (fun i => A.args.actings i j) (A.args.actingId t),
    look (fun i => A.args.players i j) (A.args.playersId t), dense (A.args.scalars t) A.args.wScalar A.args.bScalar j,
    dense (A.args.bets t) A.args.wBet A.args.bBet j, dense (A.args.actions t) A.args.wAct A.args.bAct j]

/-- The linear layer of the scalars. -/
theorem layer_scalars (t : Fin 16384) (j : Fin 128) :
    val_main_v8 (F := Ideal) A.x4 A.x14 A.x15 (ix2 t j) = dense (A.args.scalars t) A.args.wScalar A.args.bScalar j := by
  rw [val_main_v8_apply, val_main_v5_apply, val_main_v7_apply, val_main_v6_apply]
  unfold dense
  refine congrArg₂ (· + ·) (Finset.sum_congr rfl fun k _ => ?_) ?_
  · rw [val_main_v4_apply]
    refine congrArg₂ (· * ·) (congrArg A.x4 ?_) (congrArg A.x14 ?_)
    · funext e; match e with | ⟨0, _⟩ => rfl | ⟨1, _⟩ => rfl
    · funext e; match e with | ⟨0, _⟩ => rfl | ⟨1, _⟩ => rfl
  · refine congrArg A.x15 ?_
    funext e; match e with | ⟨0, _⟩ => rfl

/-- The linear layer of the bets. -/
theorem layer_bets (t : Fin 16384) (j : Fin 128) :
    val_main_v13 (F := Ideal) A.x5 A.x16 A.x17 (ix2 t j) = dense (A.args.bets t) A.args.wBet A.args.bBet j := by
  rw [val_main_v13_apply, val_main_v10_apply, val_main_v12_apply, val_main_v11_apply]
  unfold dense
  refine congrArg₂ (· + ·) (Finset.sum_congr rfl fun k _ => ?_) ?_
  · rw [val_main_v9_apply]
    refine congrArg₂ (· * ·) (congrArg A.x5 ?_) (congrArg A.x16 ?_)
    · funext e; match e with | ⟨0, _⟩ => rfl | ⟨1, _⟩ => rfl
    · funext e; match e with | ⟨0, _⟩ => rfl | ⟨1, _⟩ => rfl
  · refine congrArg A.x17 ?_
    funext e; match e with | ⟨0, _⟩ => rfl

/-- The linear layer of the actions. -/
theorem layer_actions (t : Fin 16384) (j : Fin 128) :
    val_main_v18 (F := Ideal) A.x6 A.x18 A.x19 (ix2 t j) = dense (A.args.actions t) A.args.wAct A.args.bAct j := by
  rw [val_main_v18_apply, val_main_v15_apply, val_main_v17_apply, val_main_v16_apply]
  unfold dense
  refine congrArg₂ (· + ·) (Finset.sum_congr rfl fun k _ => ?_) ?_
  · rw [val_main_v14_apply]
    refine congrArg₂ (· * ·) (congrArg A.x6 ?_) (congrArg A.x18 ?_)
    · funext e; match e with | ⟨0, _⟩ => rfl | ⟨1, _⟩ => rfl
    · funext e; match e with | ⟨0, _⟩ => rfl | ⟨1, _⟩ => rfl
  · refine congrArg A.x19 ?_
    funext e; match e with | ⟨0, _⟩ => rfl

/-- Six arrays of 128 columns side by side: column `128 l + j` is column `j` of the `l`-th. -/
theorem six_blocks (y0 y1 y2 y3 y4 y5 : Vec Ideal S16384x128 .f32)
    (hc : Shape.Concatenates [S16384x128, S16384x128, S16384x128, S16384x128, S16384x128, S16384x128] S16384x768 1)
    (t : Fin 16384) (j : Fin 128) (l : Fin 6) :
    (concatenate S16384x768 1 [⟨S16384x128, y0⟩, ⟨S16384x128, y1⟩, ⟨S16384x128, y2⟩, ⟨S16384x128, y3⟩, ⟨S16384x128, y4⟩,
      ⟨S16384x128, y5⟩] hc : Vec Ideal S16384x768 .f32) (ix2 t ⟨128 * l.val + j.val, by omega⟩) =
      (![y0 (ix2 t j), y1 (ix2 t j), y2 (ix2 t j), y3 (ix2 t j), y4 (ix2 t j), y5 (ix2 t j)] : Fin 6 → EReal) l := by
  have hi : ∀ (n : Fin 768) (b : Fin S16384x128.rank), b.cast (rfl : S16384x128.rank = S16384x768.rank) ≠ (1 : Fin 2) →
      ((ix2 t j : S16384x128.Idx) b).val = ((ix2 t n : S16384x768.Idx) (b.cast rfl)).val := fun n b hb => by
    match b with
    | ⟨0, _⟩ => rfl
    | ⟨1, _⟩ => exact absurd rfl hb
  match l with
  | ⟨0, _⟩ =>
    exact concatenate_apply_piece (t := S16384x768) 1 [⟨S16384x128, y0⟩, ⟨S16384x128, y1⟩, ⟨S16384x128, y2⟩, ⟨S16384x128, y3⟩,
      ⟨S16384x128, y4⟩, ⟨S16384x128, y5⟩] _ _ 0 (by simp) S16384x128 y0 rfl rfl 0 (by rfl) (ix2 t j) (hi _) rfl
  | ⟨1, _⟩ =>
    exact concatenate_apply_piece (t := S16384x768) 1 [⟨S16384x128, y0⟩, ⟨S16384x128, y1⟩, ⟨S16384x128, y2⟩, ⟨S16384x128, y3⟩,
      ⟨S16384x128, y4⟩, ⟨S16384x128, y5⟩] _ _ 1 (by simp) S16384x128 y1 rfl rfl 128 (by rfl) (ix2 t j) (hi _) rfl
  | ⟨2, _⟩ =>
    exact concatenate_apply_piece (t := S16384x768) 1 [⟨S16384x128, y0⟩, ⟨S16384x128, y1⟩, ⟨S16384x128, y2⟩, ⟨S16384x128, y3⟩,
      ⟨S16384x128, y4⟩, ⟨S16384x128, y5⟩] _ _ 2 (by simp) S16384x128 y2 rfl rfl 256 (by rfl) (ix2 t j) (hi _) rfl
  | ⟨3, _⟩ =>
    exact concatenate_apply_piece (t := S16384x768) 1 [⟨S16384x128, y0⟩, ⟨S16384x128, y1⟩, ⟨S16384x128, y2⟩, ⟨S16384x128, y3⟩,
      ⟨S16384x128, y4⟩, ⟨S16384x128, y5⟩] _ _ 3 (by simp) S16384x128 y3 rfl rfl 384 (by rfl) (ix2 t j) (hi _) rfl
  | ⟨4, _⟩ =>
    exact concatenate_apply_piece (t := S16384x768) 1 [⟨S16384x128, y0⟩, ⟨S16384x128, y1⟩, ⟨S16384x128, y2⟩, ⟨S16384x128, y3⟩,
      ⟨S16384x128, y4⟩, ⟨S16384x128, y5⟩] _ _ 4 (by simp) S16384x128 y4 rfl rfl 512 (by rfl) (ix2 t j) (hi _) rfl
  | ⟨5, _⟩ =>
    exact concatenate_apply_piece (t := S16384x768) 1 [⟨S16384x128, y0⟩, ⟨S16384x128, y1⟩, ⟨S16384x128, y2⟩, ⟨S16384x128, y3⟩,
      ⟨S16384x128, y4⟩, ⟨S16384x128, y5⟩] _ _ 5 (by simp) S16384x128 y5 rfl rfl 640 (by rfl) (ix2 t j) (hi _) rfl

/-- Block `l` of the shared features of event `t`. -/
theorem shared_entry (h : A.args.Ok) (t : Fin 16384) (j : Fin 128) (l : Fin 6) :
    A.shared (ix2 t ⟨128 * l.val + j.val, by omega⟩) = A.block t j l := by
  unfold Arrays.shared val_main_v19 Arrays.block
  refine (six_blocks _ _ _ _ _ _ _ t j l).trans ?_
  rw [take_heroes A.x1 A.x11 h.heroId t j, take_actings A.x2 A.x12 h.actingId t j, take_players A.x3 A.x13 h.playersId t j,
    layer_scalars A t j, layer_bets A t j, layer_actions A t j]
  rfl

/-- The first 128 joined features of a card: its embedding. -/
theorem joined_card (h : A.args.Ok) (t : Fin 16384) (c : Fin 7) (j : Fin 128) :
    A.joined (ix3 t c ⟨j.val, by omega⟩) = look (fun i => A.args.cards i j) (A.args.cardId t c) := by
  refine Eq.trans ?_ (take_cards A.x0 A.x9 h.cardId t c j)
  unfold Arrays.joined val_main_v22
  refine concatenate_pair_apply_left (t := S16384x7x896) (s₁ := S16384x7x128) (s₂ := S16384x7x768) 2 _ _ _ (ix3 t c ⟨j.val, by omega⟩) rfl (ix3 t c j) (fun b => ?_)
  match b with
  | ⟨0, _⟩ => rfl
  | ⟨1, _⟩ => rfl
  | ⟨2, _⟩ => rfl

/-- The other joined features of a card: the shared ones. -/
theorem joined_shared (t : Fin 16384) (c : Fin 7) (k : Fin 768) : A.joined (ix3 t c ⟨128 + k.val, by omega⟩) = A.shared (ix2 t k) := by
  unfold Arrays.joined val_main_v22
  refine (concatenate_pair_apply_right (t := S16384x7x896) (s₁ := S16384x7x128) (s₂ := S16384x7x768) 2 _ _ _ (ix3 t c ⟨128 + k.val, by omega⟩) rfl rfl (ix3 t c k)
    (fun b hb => ?_) (Nat.add_comm _ _)).trans ?_
  · match b with
    | ⟨0, _⟩ => rfl
    | ⟨1, _⟩ => rfl
    | ⟨2, _⟩ => exact absurd rfl hb
  · rw [val_main_v21_apply, val_main_v20_apply]
    refine congrArg A.shared ?_
    funext e; match e with | ⟨0, _⟩ => rfl | ⟨1, _⟩ => rfl

/-- Block `l` of the shared features among a card's joined ones. -/
theorem joined_block (h : A.args.Ok) (t : Fin 16384) (c : Fin 7) (j : Fin 128) (l : Fin 6) (k : Fin 896)
    (hk : k.val = 128 + (128 * l.val + j.val)) : A.joined (ix3 t c k) = A.block t j l := by
  rw [← shared_entry A h t j l, ← joined_shared A t c]
  exact congrArg A.joined (congrArg (ix3 t c) (Fin.ext hk))

/-- The joined features times `W_comb` transposed, at the row of event `t` and card `c`. -/
theorem product_entry (t : Fin 16384) (c : Fin 7) (d : Fin 128) :
    val_main_v25 (F := Ideal) A.x0 A.x1 A.x2 A.x3 A.x4 A.x5 A.x6 A.x9 A.x11 A.x12 A.x13 A.x14 A.x15 A.x16 A.x17 A.x18 A.x19 A.x20 (ix2 ⟨t.val * 7 + c.val, by omega⟩ d)
      = ∑ k : Fin 896, A.joined (ix3 t c k) * A.args.comb d k := by
  rw [val_main_v25_apply]
  refine Finset.sum_congr rfl fun k _ => ?_
  rw [val_main_v23_apply, val_main_v24_apply]
  refine congrArg₂ (· * ·) (congrArg A.joined ?_) (congrArg A.x20 ?_)
  · funext e
    match e with
    | ⟨0, _⟩ => exact Fin.ext (by show ((t.val * 7 + c.val) * 896 + k.val) / 6272 = t.val; omega)
    | ⟨1, _⟩ => exact Fin.ext (by show ((t.val * 7 + c.val) * 896 + k.val) / 896 % 7 = c.val; omega)
    | ⟨2, _⟩ => exact Fin.ext (by show ((t.val * 7 + c.val) * 896 + k.val) % 896 = k.val; omega)
  · funext e; match e with | ⟨0, _⟩ => rfl | ⟨1, _⟩ => rfl

/-- The rows before the normalisation are the specification's. -/
theorem row_pre (h : A.args.Ok) (t : Fin 16384) (c : Fin 7) (d : Fin 128) : A.rows (ix3 t c d) = A.args.pre t c d := by
  unfold Arrays.rows
  rw [val_main_v37_apply, val_main_v29_apply, val_main_v36_apply, val_main_v35_apply, val_main_v28_apply, val_main_v27_apply,
    val_main_v26_apply]
  have e : idx_main_v29 (ix3 t c d) = ix2 ⟨t.val * 7 + c.val, by omega⟩ d := by
    funext a
    match a with
    | ⟨0, _⟩ => exact Fin.ext (by show ((t.val * 7 + c.val) * 128 + d.val) / 128 = t.val * 7 + c.val; omega)
    | ⟨1, _⟩ => exact Fin.ext (by show ((t.val * 7 + c.val) * 128 + d.val) % 128 = d.val; omega)
  have es : idx_main_v35 (idx_main_v36 (ix3 t c d)) = ix2 c d := by
    funext a; match a with | ⟨0, _⟩ => rfl | ⟨1, _⟩ => rfl
  have eb : idx_main_v26 (idx_main_v27 (ix2 (⟨t.val * 7 + c.val, by omega⟩ : Fin 114688) d)) = ix1 d := by
    funext a; match a with | ⟨0, _⟩ => rfl
  rw [e, es, eb, product_entry, take_streets, sum_896]
  unfold Args.pre
  refine congrArg₂ (· + ·) (congrArg₂ (· + ·) ?_ rfl) rfl
  refine congrArg₂ (· + ·) (congrArg₂ (· + ·) (congrArg₂ (· + ·) (congrArg₂ (· + ·) (congrArg₂ (· + ·) (congrArg₂ (· + ·)
    ?_ ?_) ?_) ?_) ?_) ?_) ?_
  · exact Finset.sum_congr rfl fun j _ => congrArg (· * _) (joined_card A h t c j)
  · exact Finset.sum_congr rfl fun j _ => congrArg (· * _) (joined_block A h t c j 0 _ (by show 128 + j.val = 128 + (0 + j.val); omega))
  · exact Finset.sum_congr rfl fun j _ => congrArg (· * _) (joined_block A h t c j 1 _ (by show 256 + j.val = 128 + (128 + j.val); omega))
  · exact Finset.sum_congr rfl fun j _ => congrArg (· * _) (joined_block A h t c j 2 _ (by show 384 + j.val = 128 + (256 + j.val); omega))
  · exact Finset.sum_congr rfl fun j _ => congrArg (· * _) (joined_block A h t c j 3 _ (by show 512 + j.val = 128 + (384 + j.val); omega))
  · exact Finset.sum_congr rfl fun j _ => congrArg (· * _) (joined_block A h t c j 4 _ (by show 640 + j.val = 128 + (512 + j.val); omega))
  · exact Finset.sum_congr rfl fun j _ => congrArg (· * _) (joined_block A h t c j 5 _ (by show 768 + j.val = 128 + (640 + j.val); omega))

end Cert.ReferenceIdeal.Hand
-- ==== Proof.ReferenceNorm.lean ====
/- The normalised rows of the reference, read entry by entry: each is the specification's (`normed_out`). -/
module

public import proofs.«01_k».proof.Proof.ReferenceRows

@[expose] public section

set_option maxRecDepth 16384

noncomputable section

namespace Cert.ReferenceIdeal.Hand

open Cert.ReferenceIdeal Cert.ReferenceIdeal.Read Cert.Events
open Idealize.ShloMosaic
open scoped BigOperators

variable [Cert.ReferenceIdeal.Facts] (A : Arrays)

/-- The normalised rows. -/
def Arrays.normed : Vec Ideal S16384x7x128 .f32 := val_main_v55 (F := Ideal) A.x0 A.x1 A.x2 A.x3 A.x4 A.x5 A.x6 A.x9 A.x10 A.x11 A.x12 A.x13 A.x14 A.x15 A.x16 A.x17 A.x18 A.x19 A.x20 A.x21 A.x22 A.x23

/-- The row of event `t` and card `c` before the normalisation. -/
def Arrays.row (t : Fin 16384) (c : Fin 7) (e : Fin 128) : EReal := A.rows (ix3 t c e)

/-- The word of the constant zero. -/
theorem ofBits_zero : Ideal.ofBits FTy.f32 0x00000000#32 = 0 := by
  simp [Ideal.ofBits, Ideal.ieee]

/-- The reference's count minus its zero correction is 128. -/
theorem count_entry (i : S_.Idx) : val_main_call5_v8 (F := Ideal) i = Ideal.ofBits FTy.f32 0x43000000#32 := by
  rw [val_main_call5_v8_apply, val_main_call5_cst_1_apply, val_main_call5_v7_apply, val_main_c_1_apply]
  show Ideal.ofBits FTy.f32 0x43000000#32 - (((0#32 : BitVec 32).toInt : ℝ) : EReal) = _
  simp

/-- The mean of a row. -/
theorem mean_entry (t : Fin 16384) (c : Fin 7) (z : Fin 1) :
    val_main_v41 (F := Ideal) A.x0 A.x1 A.x2 A.x3 A.x4 A.x5 A.x6 A.x9 A.x10 A.x11 A.x12 A.x13 A.x14 A.x15 A.x16 A.x17 A.x18 A.x19 A.x20 A.x21 (ix3 t c z) = mean (A.row t c) := by
  rw [val_main_v41_apply, val_main_v39_apply, val_main_v38_apply, val_main_v40_apply, val_main_cst_apply, val_main_cst_0_apply]
  unfold mean
  refine congrArg₂ Ideal.div ?_ rfl
  refine (congrArg₂ (· + ·) ofBits_zero (Finset.sum_congr rfl fun k _ => ?_)).trans (zero_add _)
  refine congrArg A.rows ?_
  funext a; match a with | ⟨0, _⟩ => rfl | ⟨1, _⟩ => rfl | ⟨2, _⟩ => rfl

/-- The mean of a row, as the variance takes it. -/
theorem mean_entry' (t : Fin 16384) (c : Fin 7) (z : Fin 1) :
    val_main_call5_v3 (F := Ideal) A.x0 A.x1 A.x2 A.x3 A.x4 A.x5 A.x6 A.x9 A.x10 A.x11 A.x12 A.x13 A.x14 A.x15 A.x16 A.x17 A.x18 A.x19 A.x20 A.x21 (ix3 t c z) = mean (A.row t c) := by
  rw [val_main_call5_v3_apply, val_main_call5_v1_apply, val_main_call5_v0_apply, val_main_call5_v2_apply, val_main_call5_cst_apply,
    val_main_call5_cst_0_apply]
  unfold mean
  refine congrArg₂ Ideal.div ?_ rfl
  refine (congrArg₂ (· + ·) ofBits_zero (Finset.sum_congr rfl fun k _ => ?_)).trans (zero_add _)
  refine congrArg A.rows ?_
  funext a; match a with | ⟨0, _⟩ => rfl | ⟨1, _⟩ => rfl | ⟨2, _⟩ => rfl

/-- The variance of a row. -/
theorem var_entry (t : Fin 16384) (c : Fin 7) (z : Fin 1) :
    val_main_v42 (F := Ideal) A.x0 A.x1 A.x2 A.x3 A.x4 A.x5 A.x6 A.x9 A.x10 A.x11 A.x12 A.x13 A.x14 A.x15 A.x16 A.x17 A.x18 A.x19 A.x20 A.x21 (ix3 t c z)
      = Ideal.div (∑ e, (A.row t c e - mean (A.row t c)) * (A.row t c e - mean (A.row t c))) (Ideal.ofBits FTy.f32 0x43000000#32) := by
  have hg : ∀ i, val_main_call5_v13 (F := Ideal) i = 1#1 := fun i => by
    rw [val_main_call5_v13_apply, count_entry, val_main_call5_cst_3_apply]
    show BitVec.ofBool (decide (Ideal.ofBits FTy.f32 0x00000000#32 < Ideal.ofBits FTy.f32 0x43000000#32)) = 1#1
    rw [ofBits_zero, ofBits_128, decide_eq_true (by exact_mod_cast (by norm_num : (0 : ℝ) < 128))]
    rfl
  have hsel : val_main_v42 (F := Ideal) A.x0 A.x1 A.x2 A.x3 A.x4 A.x5 A.x6 A.x9 A.x10 A.x11 A.x12 A.x13 A.x14 A.x15 A.x16 A.x17 A.x18 A.x19 A.x20 A.x21 (ix3 t c z)
      = val_main_call5_v12 (F := Ideal) A.x0 A.x1 A.x2 A.x3 A.x4 A.x5 A.x6 A.x9 A.x10 A.x11 A.x12 A.x13 A.x14 A.x15 A.x16 A.x17 A.x18 A.x19 A.x20 A.x21 (ix3 t c z) := by
    unfold val_main_v42
    show Scalar.select (val_main_call5_v13 (F := Ideal) _) _ _ = _
    rw [hg]
    rfl
  rw [hsel, val_main_call5_v12_apply, val_main_call5_v10_apply, val_main_call5_v9_apply, val_main_call5_v11_apply, count_entry,
    val_main_call5_cst_2_apply]
  refine congrArg₂ Ideal.div ?_ rfl
  refine (congrArg₂ (· + ·) ofBits_zero (Finset.sum_congr rfl fun k _ => ?_)).trans (zero_add _)
  rw [val_main_call5_v6_apply, val_main_call5_v5_apply, val_main_call5_v4_apply]
  have e1 : idx_main_call5_v9 (idx_main_call5_v10 (ix3 t c z)) k = ix3 t c k := by
    funext a; match a with | ⟨0, _⟩ => rfl | ⟨1, _⟩ => rfl | ⟨2, _⟩ => rfl
  have e2 : idx_main_call5_v4 (ix3 t c k) = ix3 t c (0 : Fin 1) := by
    funext a; match a with | ⟨0, _⟩ => rfl | ⟨1, _⟩ => rfl | ⟨2, _⟩ => rfl
  rw [e1, e2, mean_entry']
  rfl

/-- A normalised row is the layer normalisation of the row. -/
theorem normed_entry (t : Fin 16384) (c : Fin 7) (d : Fin 128) :
    A.normed (ix3 t c d) = layerNormRef (A.row t c) A.args.gamma A.args.beta d := by
  unfold Arrays.normed
  rw [val_main_v55_apply, val_main_v52_apply, val_main_v47_apply, val_main_v46_apply, val_main_v45_apply, val_main_v44_apply,
    val_main_v43_apply, val_main_v51_apply, val_main_v50_apply, val_main_v49_apply, val_main_v48_apply, val_main_cst_2_apply,
    val_main_v54_apply, val_main_v53_apply]
  have e1 : idx_main_v43 (ix3 t c d) = ix3 t c (0 : Fin 1) := by
    funext a; match a with | ⟨0, _⟩ => rfl | ⟨1, _⟩ => rfl | ⟨2, _⟩ => rfl
  have e2 : idx_main_v51 (ix3 t c d) = ix3 t c (0 : Fin 1) := by
    funext a; match a with | ⟨0, _⟩ => rfl | ⟨1, _⟩ => rfl | ⟨2, _⟩ => rfl
  have e3 : idx_main_v45 (idx_main_v46 (ix3 t c d)) = ix1 d := by funext a; match a with | ⟨0, _⟩ => rfl
  have e4 : idx_main_v53 (idx_main_v54 (ix3 t c d)) = ix1 d := by funext a; match a with | ⟨0, _⟩ => rfl
  rw [e1, e2, e3, e4, mean_entry, var_entry]
  rfl

/-- The normalised rows are the specification's. -/
theorem normed_out (h : A.args.Ok) (t : Fin 16384) (c : Fin 7) (d : Fin 128) : A.normed (ix3 t c d) = A.args.out t c d := by
  rw [normed_entry, layerNormRef_eq]
  unfold Args.out
  exact congrArg (fun x => layerNorm x A.args.gamma A.args.beta d) (funext fun e => row_pre A h t c e)

end Cert.ReferenceIdeal.Hand
-- ==== Proof.ReferenceScatter.lean ====
/- The scatters of the reference, read entry by entry: row `7 t + c` lands at batch `t / 16`, token `(t % 16) 7 + c`, so every place
   is written exactly once. -/
module

public import proofs.«01_k».proof.Proof.ReferenceNorm
public import Idealize.ShloMosaic.Lib.Routing.OpsSet

@[expose] public section

set_option maxRecDepth 16384

noncomputable section

namespace Cert.ReferenceIdeal.Hand

open Cert.ReferenceIdeal Cert.ReferenceIdeal.Read Cert.Events
open Idealize.ShloMosaic

variable [Cert.ReferenceIdeal.Facts] (A : Arrays)

/-- The batch of row `r`. -/
theorem batch_entry (h : A.args.Ok) (r : Fin 114688) : (val_main_v57 (F := Ideal) A.x7 (ix1 r)).toNat = r.val / 7 / 16 := by
  rw [val_main_v57_apply, val_main_v56_apply]
  have e : idx_main_v56 (idx_main_v57 (ix1 r)) = ix1 (⟨r.val / 7, by omega⟩ : Fin 16384) := by
    funext a; match a with | ⟨0, _⟩ => rfl
  rw [e]
  exact h.batch ⟨r.val / 7, by omega⟩

/-- The place of row `r` in its batch. -/
theorem place_entry (h : A.args.Ok) (r : Fin 114688) :
    (val_main_v66 (F := Ideal) A.x8 (ix1 r)).toNat = r.val / 7 % 16 * 7 + r.val % 7 := by
  rw [val_main_v66_apply, val_main_v65_apply, val_main_v63_apply, val_main_v60_apply, val_main_v58_apply, val_main_v59_apply,
    val_main_c_3_apply, val_main_v64_apply, val_main_v62_apply, val_main_v61_apply]
  have e : idx_main_v58 (idx_main_v63 (idx_main_v66 (ix1 r))) = ix1 (⟨r.val / 7, by omega⟩ : Fin 16384) := by
    funext a; match a with | ⟨0, _⟩ => rfl
  rw [e]
  show ((A.x8 (ix1 (⟨r.val / 7, by omega⟩ : Fin 16384))) * 7#32 + BitVec.ofNat 32 (r.val % 7)).toNat = _
  have he : (A.x8 (ix1 (⟨r.val / 7, by omega⟩ : Fin 16384))).toNat = r.val / 7 % 16 := h.event ⟨r.val / 7, by omega⟩
  rw [BitVec.toNat_add, BitVec.toNat_mul, he, BitVec.toNat_ofNat, BitVec.toNat_ofNat]
  omega

/-- The batch of row `r`, read signed off the places of the first scatter. -/
theorem places_batch (h : A.args.Ok) (r : Fin 114688) :
    (val_main_v81 (F := Ideal) A.x7 A.x8 (ix2 r (0 : Fin 2))).toInt = ((r.val / 7 / 16 : ℕ) : Int) := by
  have e : val_main_v81 (F := Ideal) A.x7 A.x8 (ix2 r (0 : Fin 2)) = val_main_v57 (F := Ideal) A.x7 (ix1 r) := by
    unfold val_main_v81
    refine (concatenate_pair_apply_left (t := S114688x2) (s₁ := S114688x1) (s₂ := S114688x1) 1 _ _ _ (ix2 r (0 : Fin 2)) rfl
      (ix2 r (0 : Fin 1)) (fun b => ?_)).trans ?_
    · match b with
      | ⟨0, _⟩ => rfl
      | ⟨1, _⟩ => rfl
    · rw [val_main_v79_apply, val_main_v73_apply, val_main_v70_apply, val_main_v69_apply, val_main_c_5_apply]
      have e : idx_main_v79 (ix2 r (0 : Fin 1)) = ix1 r := by funext a; match a with | ⟨0, _⟩ => rfl
      rw [e]
      exact Routing.wrap_of_lt _ _ (by rw [batch_entry A h]; omega)
  rw [e, StableHlo.Predicate.toInt_eq_toNat_of_lt (by rw [batch_entry A h]; omega), batch_entry A h]

/-- The place of row `r` in its batch, read signed off the places of the first scatter. -/
theorem places_token (h : A.args.Ok) (r : Fin 114688) :
    (val_main_v81 (F := Ideal) A.x7 A.x8 (ix2 r (1 : Fin 2))).toInt = ((r.val / 7 % 16 * 7 + r.val % 7 : ℕ) : Int) := by
  have e : val_main_v81 (F := Ideal) A.x7 A.x8 (ix2 r (1 : Fin 2)) = val_main_v66 (F := Ideal) A.x8 (ix1 r) := by
    unfold val_main_v81
    refine (concatenate_pair_apply_right (t := S114688x2) (s₁ := S114688x1) (s₂ := S114688x1) 1 _ _ _ (ix2 r (1 : Fin 2)) rfl rfl
      (ix2 r (0 : Fin 1)) (fun b hb => ?_) rfl).trans ?_
    · match b with
      | ⟨0, _⟩ => rfl
      | ⟨1, _⟩ => exact absurd rfl hb
    · rw [val_main_v80_apply, val_main_v78_apply, val_main_v75_apply, val_main_v74_apply, val_main_c_7_apply]
      have e : idx_main_v80 (ix2 r (0 : Fin 1)) = ix1 r := by funext a; match a with | ⟨0, _⟩ => rfl
      rw [e]
      exact Routing.wrap_of_lt _ _ (by rw [place_entry A h]; omega)
  rw [e, StableHlo.Predicate.toInt_eq_toNat_of_lt (by rw [place_entry A h]; omega), place_entry A h]

/-- The second scatter writes at the places of the first. -/
theorem places_eq : val_main_v96 (F := Ideal) A.x7 A.x8 = val_main_v81 (F := Ideal) A.x7 A.x8 := rfl

/-- Row `r` of the normalised rows lands at `(B, e)` in its own column exactly when `r` is `112 B + e`. -/
theorem tokens_land (h : A.args.Ok) (r : Fin 114688) (d' : Fin 128) (B : Fin 1024) (e : Fin 112) (d : Fin 128) :
    scatter_S1024x112x128_S114688x2_S114688x128_1_01_01_1.resultIdx? (ix2 r d') (val_main_v81 (F := Ideal) A.x7 A.x8) = some (ix3 B e d)
      ↔ r.val = 112 * B.val + e.val ∧ d' = d := by
  have s0 : scatter_S1024x112x128_S114688x2_S114688x128_1_01_01_1.start (ix2 r d') (val_main_v81 (F := Ideal) A.x7 A.x8) (0 : Fin 3)
      = (val_main_v81 (F := Ideal) A.x7 A.x8 (ix2 r (0 : Fin 2))).toInt := by
    refine congrArg (fun i => (val_main_v81 (F := Ideal) A.x7 A.x8 i).toInt) (funext fun b => ?_)
    match b with | ⟨0, _⟩ => rfl | ⟨1, _⟩ => rfl
  have s1 : scatter_S1024x112x128_S114688x2_S114688x128_1_01_01_1.start (ix2 r d') (val_main_v81 (F := Ideal) A.x7 A.x8) (1 : Fin 3)
      = (val_main_v81 (F := Ideal) A.x7 A.x8 (ix2 r (1 : Fin 2))).toInt := by
    refine congrArg (fun i => (val_main_v81 (F := Ideal) A.x7 A.x8 i).toInt) (funext fun b => ?_)
    match b with | ⟨0, _⟩ => rfl | ⟨1, _⟩ => rfl
  have s2 : scatter_S1024x112x128_S114688x2_S114688x128_1_01_01_1.start (ix2 r d') (val_main_v81 (F := Ideal) A.x7 A.x8) (2 : Fin 3)
      = 0 := rfl
  have w0 : scatter_S1024x112x128_S114688x2_S114688x128_1_01_01_1.window (ix2 r d') (0 : Fin 3) = 0 := rfl
  have w1 : scatter_S1024x112x128_S114688x2_S114688x128_1_01_01_1.window (ix2 r d') (1 : Fin 3) = 0 := rfl
  have w2 : scatter_S1024x112x128_S114688x2_S114688x128_1_01_01_1.window (ix2 r d') (2 : Fin 3) = d'.val := rfl
  rw [places_batch A h] at s0
  rw [places_token A h] at s1
  rw [Routing.resultIdx?_eq_some]
  constructor
  · intro q
    have q0 : _ = ((B.val : ℕ) : Int) := q (0 : Fin 3)
    have q1 : _ = ((e.val : ℕ) : Int) := q (1 : Fin 3)
    have q2 : _ = ((d.val : ℕ) : Int) := q (2 : Fin 3)
    rw [s0, w0] at q0
    rw [s1, w1] at q1
    rw [s2, w2] at q2
    exact ⟨by omega, Fin.ext (by omega)⟩
  · rintro ⟨hr, rfl⟩ a
    match a with
    | ⟨0, _⟩ =>
      refine (congrArg₂ (fun x y => x + ((y : ℕ) : Int)) s0 w0).trans ?_
      show ((r.val / 7 / 16 : ℕ) : Int) + ((0 : ℕ) : Int) = (B.val : Int)
      omega
    | ⟨1, _⟩ =>
      refine (congrArg₂ (fun x y => x + ((y : ℕ) : Int)) s1 w1).trans ?_
      show ((r.val / 7 % 16 * 7 + r.val % 7 : ℕ) : Int) + ((0 : ℕ) : Int) = (e.val : Int)
      omega
    | ⟨2, _⟩ =>
      refine (congrArg₂ (fun x y => x + ((y : ℕ) : Int)) s2 w2).trans ?_
      exact zero_add _

/-- The mark of row `r` lands at `(B, e)` exactly when `r` is `112 B + e`. -/
theorem marks_land (h : A.args.Ok) (r : Fin 114688) (B : Fin 1024) (e : Fin 112) :
    scatter_S1024x112_S114688x2_S114688_n_01_01_1.resultIdx? (ix1 r) (val_main_v81 (F := Ideal) A.x7 A.x8) = some (ix2 B e)
      ↔ r.val = 112 * B.val + e.val := by
  have s0 : scatter_S1024x112_S114688x2_S114688_n_01_01_1.start (ix1 r) (val_main_v81 (F := Ideal) A.x7 A.x8) (0 : Fin 2)
      = (val_main_v81 (F := Ideal) A.x7 A.x8 (ix2 r (0 : Fin 2))).toInt := by
    refine congrArg (fun i => (val_main_v81 (F := Ideal) A.x7 A.x8 i).toInt) (funext fun b => ?_)
    match b with | ⟨0, _⟩ => rfl | ⟨1, _⟩ => rfl
  have s1 : scatter_S1024x112_S114688x2_S114688_n_01_01_1.start (ix1 r) (val_main_v81 (F := Ideal) A.x7 A.x8) (1 : Fin 2)
      = (val_main_v81 (F := Ideal) A.x7 A.x8 (ix2 r (1 : Fin 2))).toInt := by
    refine congrArg (fun i => (val_main_v81 (F := Ideal) A.x7 A.x8 i).toInt) (funext fun b => ?_)
    match b with | ⟨0, _⟩ => rfl | ⟨1, _⟩ => rfl
  have w0 : scatter_S1024x112_S114688x2_S114688_n_01_01_1.window (ix1 r) (0 : Fin 2) = 0 := rfl
  have w1 : scatter_S1024x112_S114688x2_S114688_n_01_01_1.window (ix1 r) (1 : Fin 2) = 0 := rfl
  rw [places_batch A h] at s0
  rw [places_token A h] at s1
  rw [Routing.resultIdx?_eq_some]
  constructor
  · intro q
    have q0 : _ = ((B.val : ℕ) : Int) := q (0 : Fin 2)
    have q1 : _ = ((e.val : ℕ) : Int) := q (1 : Fin 2)
    rw [s0, w0] at q0
    rw [s1, w1] at q1
    omega
  · intro hr a
    match a with
    | ⟨0, _⟩ =>
      refine (congrArg₂ (fun x y => x + ((y : ℕ) : Int)) s0 w0).trans ?_
      show ((r.val / 7 / 16 : ℕ) : Int) + ((0 : ℕ) : Int) = (B.val : Int)
      omega
    | ⟨1, _⟩ =>
      refine (congrArg₂ (fun x y => x + ((y : ℕ) : Int)) s1 w1).trans ?_
      show ((r.val / 7 % 16 * 7 + r.val % 7 : ℕ) : Int) + ((0 : ℕ) : Int) = (e.val : Int)
      omega

/-- The row of an event and a card among the normalised rows. -/
theorem flat_entry (h : A.args.Ok) (r : Fin 114688) (d : Fin 128) :
    val_main_v68 (F := Ideal) A.x0 A.x1 A.x2 A.x3 A.x4 A.x5 A.x6 A.x9 A.x10 A.x11 A.x12 A.x13 A.x14 A.x15 A.x16 A.x17 A.x18 A.x19 A.x20 A.x21 A.x22 A.x23 (ix2 r d) = A.args.out ⟨r.val / 7, by omega⟩ ⟨r.val % 7, by omega⟩ d := by
  rw [val_main_v68_apply, ← normed_out A h]
  refine congrArg A.normed (funext fun a => ?_)
  match a with
  | ⟨0, _⟩ => exact Fin.ext (by show (r.val * 128 + d.val) / 896 = r.val / 7; omega)
  | ⟨1, _⟩ => exact Fin.ext (by show (r.val * 128 + d.val) / 128 % 7 = r.val % 7; omega)
  | ⟨2, _⟩ => exact Fin.ext (by show (r.val * 128 + d.val) % 128 = d.val; omega)

/-- **The first result of the reference is the specification's.** -/
theorem tokens_entry (h : A.args.Ok) (B : Fin 1024) (e : Fin 112) (d : Fin 128) :
    val_main_v82 (F := Ideal) A.x0 A.x1 A.x2 A.x3 A.x4 A.x5 A.x6 A.x7 A.x8 A.x9 A.x10 A.x11 A.x12 A.x13 A.x14 A.x15 A.x16 A.x17 A.x18 A.x19 A.x20 A.x21 A.x22 A.x23 (ix3 B e d) = A.args.tokens B e d := by
  unfold val_main_v82
  refine Routing.scatter_set_hit _ _ _ _ _ _ (fun k hk => ?_) (ix2 (⟨112 * B.val + e.val, by omega⟩ : Fin 114688) d)
    ((tokens_land A h _ d B e d).2 ⟨rfl, rfl⟩)
  obtain ⟨r, d', rfl⟩ : ∃ (r : Fin 114688) (d' : Fin 128), k = ix2 r d' := ⟨k 0, k 1, eq_ix2 k⟩
  obtain ⟨hr, rfl⟩ := (tokens_land A h r d' B e d).1 hk
  rw [flat_entry A h]
  unfold Args.tokens
  congr 1
  · exact Fin.ext (by show r.val / 7 = 16 * B.val + e.val / 7; omega)
  · exact Fin.ext (by show r.val % 7 = e.val % 7; omega)

/-- **The second result of the reference is one everywhere.** -/
theorem marks_entry (h : A.args.Ok) (B : Fin 1024) (e : Fin 112) :
    val_main_v98 (F := Ideal) A.x7 A.x8 (ix2 B e) = Ideal.ofBits FTy.f32 0x3F800000#32 := by
  unfold val_main_v98
  rw [places_eq A]
  exact Routing.scatter_set_hit _ _ _ _ _ _ (fun k _ => rfl) (ix1 (⟨112 * B.val + e.val, by omega⟩ : Fin 114688))
    ((marks_land A h _ B e).2 rfl)

end Cert.ReferenceIdeal.Hand
-- ==== Proof.ReferenceResults.lean ====
/- A run of the reference ends with the specification's results and the arguments unchanged. -/
module

public import proofs.«01_k».proof.Proof.ReferenceScatter
public import proofs.«01_k».proof.Proof.Gen.ReferenceIdeal.Run
public import Idealize.ShloMosaic.Lib.Claim

@[expose] public section

set_option maxRecDepth 16384

noncomputable section

namespace Cert.ReferenceIdeal.Hand

open Cert.ReferenceIdeal Cert.ReferenceIdeal.Gen Cert.ReferenceIdeal.Read Cert.Events
open Idealize.ShloMosaic Idealize.SL.Sem

variable (m : (ℓ : Loc nD τ sig) → Buf (Elt Ideal) ℓ)

/-- The argument arrays on core `c`. -/
def arraysOf (c : Dev nD) : Arrays where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)
  x10 := m ((c.tc : Thread nD τ).loc main_arg10)
  x11 := m ((c.tc : Thread nD τ).loc main_arg11)
  x12 := m ((c.tc : Thread nD τ).loc main_arg12)
  x13 := m ((c.tc : Thread nD τ).loc main_arg13)
  x14 := m ((c.tc : Thread nD τ).loc main_arg14)
  x15 := m ((c.tc : Thread nD τ).loc main_arg15)
  x16 := m ((c.tc : Thread nD τ).loc main_arg16)
  x17 := m ((c.tc : Thread nD τ).loc main_arg17)
  x18 := m ((c.tc : Thread nD τ).loc main_arg18)
  x19 := m ((c.tc : Thread nD τ).loc main_arg19)
  x20 := m ((c.tc : Thread nD τ).loc main_arg20)
  x21 := m ((c.tc : Thread nD τ).loc main_arg21)
  x22 := m ((c.tc : Thread nD τ).loc main_arg22)
  x23 := m ((c.tc : Thread nD τ).loc main_arg23)

/-- A run from zero semaphore counters ends with the specification's rows in the first result, ones in the second and the arguments
    unchanged. -/
theorem results (ρ : Dev nD → PrngReg) (h : ∀ c, (arraysOf m c).args.Ok) :
    θ_run defs (onTc (τ := τ) (main (F := Ideal))) ⟨m, fun _ => 0, ρ⟩ (fun r => ∀ c : Dev nD,
      r.2.mem ((c.tc : Thread nD τ).loc main_v82)
          = (fun y => (arraysOf m c).args.tokens (y 0) (y 1) (y 2) : Vec Ideal S1024x112x128 .f32)
      ∧ r.2.mem ((c.tc : Thread nD τ).loc main_v98) = (fun _ => Ideal.ofBits FTy.f32 0x3F800000#32 : Vec Ideal S1024x112 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) := by
  refine (θ_run defs _ _).mono (fun r hr c => ⟨?_, ?_, (hr c).2.2⟩) (Cert.ReferenceIdeal.Value.run (F := Ideal) m ρ)
  · refine (hr c).1.trans ((val_main_v82_eq (F := Ideal) (StableHlo.launchContents m c)).trans ?_)
    funext y
    obtain ⟨B, e, d, rfl⟩ : ∃ (B : Fin 1024) (e : Fin 112) (d : Fin 128), y = ix3 B e d := ⟨y 0, y 1, y 2, eq_ix3 y⟩
    exact tokens_entry (arraysOf m c) (h c) B e d
  · refine (hr c).2.1.trans ((val_main_v98_eq (F := Ideal) (StableHlo.launchContents m c)).trans ?_)
    funext y
    obtain ⟨B, e, rfl⟩ : ∃ (B : Fin 1024) (e : Fin 112), y = ix2 B e := ⟨y 0, y 1, eq_ix2 y⟩
    exact marks_entry (arraysOf m c) (h c) B e

end Cert.ReferenceIdeal.Hand
-- ==== Proof.Algebraic.lean ====
/- The value claim: from equal arguments that meet the precondition, the kernel and the reference both end with the
   specification's results. -/
module

public import proofs.«01_k».proof.Proof.Precondition
public import proofs.«01_k».proof.Proof.KernelResults
public import proofs.«01_k».proof.Proof.ReferenceResults

@[expose] public section

set_option maxRecDepth 16384

noncomputable section

namespace Cert.Events

open Idealize.ShloMosaic Idealize.SL.Sem

/-- **The kernel and the reference end with equal results.** -/
theorem algebraic_holds [Cert.Pre_packed_events.Facts] :
    Cert.algebraic_KernelIdeal_ReferenceIdeal_pre_packed_events := by
  intro m g m' g' hpre hag
  have hok : ∀ c, (Cert.KernelIdeal.Hand.argsOf m c).Ok := fun c => Cert.KernelIdeal.Hand.ok_of_pre m c hpre
  have hargs : ∀ c, (Cert.ReferenceIdeal.Hand.arraysOf m' c).args = Cert.KernelIdeal.Hand.argsOf m c := fun c => by
    obtain ⟨h0, h1, h2, h3, h4, h5, h6, h7, h8, h9, h10, h11, h12, h13, h14, h15, h16, h17, h18, h19, h20, h21, h22, h23⟩ := hag c
    unfold Cert.ReferenceIdeal.Hand.arraysOf
    rw [h0, h1, h2, h3, h4, h5, h6, h7, h8, h9, h10, h11, h12, h13, h14, h15, h16, h17, h18, h19, h20, h21, h22, h23]
    rfl
  refine ⟨fun c => Cert.KernelIdeal.Hand.tokensArr m c, fun _ => Cert.KernelIdeal.Hand.maskArr, Cert.KernelIdeal.Hand.results m g hok,
    (θ_run _ _ _).mono (fun r hr c => ?_) (Cert.ReferenceIdeal.Hand.results m' g' fun c => by rw [hargs c]; exact hok c)⟩
  obtain ⟨h1, h2, h3⟩ := hr c
  refine ⟨h1.trans ?_, h2.trans ?_, h3⟩
  · rw [hargs c]; rfl
  · exact funext fun _ => Ideal.ofBits_one_f32

end Cert.Events
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.KernelIdealFrame
public import proofs.«01_k».proof.Proof.ReferenceFrame
public import proofs.«01_k».proof.Proof.Algebraic
public import proofs.«01_k».proof.Proof.Gen.Pre_packed_events
public import Idealize.ShloMosaic.Adequacy
public import Idealize.ShloMosaic.Init

@[expose] public section

noncomputable section

namespace Cert.Proof

open Idealize.ShloMosaic Idealize.SL.Sem Cert.Kernel

/-- Every claim of this certificate. -/
theorem claim : Cert.Claim := ⟨Cert.Kernel.Gen.facts, Cert.KernelIdeal.Gen.facts, Cert.ReferenceIdeal.Gen.facts, Cert.Pre_packed_events.Gen.facts,
  fun m g _ => Cert.Kernel.Hand.unchanged m g,
  fun m g _ => Cert.KernelIdeal.Hand.unchanged m g,
  fun m g _ => Cert.KernelIdeal.Hand.unchanged m g,
  fun m g _ => Cert.ReferenceIdeal.Hand.unchanged m g,
  fun m g _ => Cert.ReferenceIdeal.Hand.unchanged m g,
  trivial, Cert.Events.algebraic_holds⟩

end Cert.Proof

end
